-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.bf16_pair.Statement Cert.KernelIdeal.S1x64x2x128 Cert.KernelIdeal.S1x64x1x128
  ∧ IdealRules.bf16_pair.Statement Cert.KernelIdeal.S128x128 Cert.KernelIdeal.S64x128
  ∧ IdealRules.bf16_pack.Statement Cert.KernelIdeal.S128x256
  ∧ IdealRules.bf16_pack.Statement Cert.KernelIdeal.S64x128
  ∧ IdealRules.bf16_pack.Statement Cert.KernelIdeal.S64x256

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v9_1)) (v1 : (c : Dev Cert.KernelIdeal.nD) → Buf (Elt Ideal) ((c.tc : Thread Cert.KernelIdeal.nD Cert.KernelIdeal.τ).loc Cert.KernelIdeal.main_v9_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_1) = v0 c
          ∧ r.2.mem ((c.tc : Thread Cert.KernelIdeal.nD Cert.KernelIdeal.τ).loc Cert.KernelIdeal.main_v9_2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S20x24x128x128 : Shape := ⟨4, ![20, 24, 128, 128]⟩
abbrev S2x640x24x256 : Shape := ⟨4, ![2, 640, 24, 256]⟩
abbrev S64x480x128 : Shape := ⟨3, ![64, 480, 128]⟩
abbrev S20x64x128 : Shape := ⟨3, ![20, 64, 128]⟩
abbrev S480x1 : Shape := ⟨2, ![480, 1]⟩
abbrev S2x24x128x256 : Shape := ⟨4, ![2, 24, 128, 256]⟩
abbrev S256 : Shape := ⟨1, ![256]⟩
abbrev S_ : Shape := ⟨0, ![]⟩

class Facts : Prop where
  bcast_S_S20x24x128x128 : S_.BroadcastsInDim S20x24x128x128 (![] : Fin 0 → Fin S20x24x128x128.rank)
  reducesTo_S20x24x128x128_S_d0_1_2_3 : S20x24x128x128.ReducesTo [0, 1, 2, 3] S_
  h_S_ : 0 < S_.numel
  bcast_S_S2x640x24x256 : S_.BroadcastsInDim S2x640x24x256 (![] : Fin 0 → Fin S2x640x24x256.rank)
  reducesTo_S2x640x24x256_S_d0_1_2_3 : S2x640x24x256.ReducesTo [0, 1, 2, 3] S_
  bcast_S_S64x480x128 : S_.BroadcastsInDim S64x480x128 (![] : Fin 0 → Fin S64x480x128.rank)
  reducesTo_S64x480x128_S_d0_1_2 : S64x480x128.ReducesTo [0, 1, 2] S_
  bcast_S_S20x64x128 : S_.BroadcastsInDim S20x64x128 (![] : Fin 0 → Fin S20x64x128.rank)
  reducesTo_S20x64x128_S_d0_1_2 : S20x64x128.ReducesTo [0, 1, 2] S_
  bcast_S_S480x1 : S_.BroadcastsInDim S480x1 (![] : Fin 0 → Fin S480x1.rank)
  reducesTo_S480x1_S_d0_1 : S480x1.ReducesTo [0, 1] S_
  bcast_S_S2x24x128x256 : S_.BroadcastsInDim S2x24x128x256 (![] : Fin 0 → Fin S2x24x128x256.rank)
  reducesTo_S2x24x128x256_S_d0_1_2_3 : S2x24x128x256.ReducesTo [0, 1, 2, 3] S_
  bcast_S_S256 : S_.BroadcastsInDim S256 (![] : Fin 0 → Fin S256.rank)
  reducesTo_S256_S_d0 : S256.ReducesTo [0] S_

variable [Facts]

def fn_part1 {F : FTy → Type} [FloatOps F] (main_arg2 : FVec F S2x640x24x256 .bf16) (main_arg5 : FVec F S480x1 .f32) (main_arg6 : FVec F S2x24x128x256 .f32) (main_arg7 : FVec F S256 .f32) (main_v3 : IVec S_ 1) (main_v7 : IVec S_ 1) (main_v11 : IVec S_ 1) (main_v15 : IVec S_ 1) : IVec S_ 1 × IVec S_ 1 × IVec S_ 1 × IVec S_ 1 × IVec S_ 1 × IVec S_ 1 × IVec S_ 1 × IVec S_ 1 :=
  let main_v16 : FVec F S480x1 .f32 := Host.absf main_arg5
  let main_cst_6 : FVec F S_ .f32 := constant S_ .f32 0x7F800000#32
  let main_v17 : FVec F S480x1 .f32 := broadcastInDim S480x1 ![] bcast_S_S480x1 main_cst_6
  let main_v18 : IVec S480x1 1 := cmpf .olt main_v16 main_v17
  let main_c_7 : IVec S_ 1 := constantI S_ 1 1#1
  let main_v19 : IVec S_ 1 := (fun x v => Host.reduce IntOp.andi x v reducesTo_S480x1_S_d0_1 h_S_) main_v18 main_c_7
  let main_v20 : FVec F S2x24x128x256 .f32 := Host.absf main_arg6
  let main_cst_8 : FVec F S_ .f32 := constant S_ .f32 0x7F800000#32
  let main_v21 : FVec F S2x24x128x256 .f32 := broadcastInDim S2x24x128x256 ![] bcast_S_S2x24x128x256 main_cst_8
  let main_v22 : IVec S2x24x128x256 1 := cmpf .olt main_v20 main_v21
  let main_c_9 : IVec S_ 1 := constantI S_ 1 1#1
  let main_v23 : IVec S_ 1 := (fun x v => Host.reduce IntOp.andi x v reducesTo_S2x24x128x256_S_d0_1_2_3 h_S_) main_v22 main_c_9
  let main_v24 : FVec F S2x640x24x256 .bf16 := Host.absf main_arg2
  let main_cst_10 : FVec F S_ .bf16 := constant S_ .bf16 0x5D80#16
  let main_v25 : FVec F S2x640x24x256 .bf16 := broadcastInDim S2x640x24x256 ![] bcast_S_S2x640x24x256 main_cst_10
  let main_v26 : IVec S2x640x24x256 1 := cmpf .olt main_v24 main_v25
  let main_c_11 : IVec S_ 1 := constantI S_ 1 1#1
  let main_v27 : IVec S_ 1 := (fun x v => Host.reduce IntOp.andi x v reducesTo_S2x640x24x256_S_d0_1_2_3 h_S_) main_v26 main_c_11
  let main_v28 : FVec F S256 .f32 := Host.absf main_arg7
  let main_cst_12 : FVec F S_ .f32 := constant S_ .f32 0x5D800000#32
  let main_v29 : FVec F S256 .f32 := broadcastInDim S256 ![] bcast_S_S256 main_cst_12
  let main_v30 : IVec S256 1 := cmpf .olt main_v28 main_v29
  let main_c_13 : IVec S_ 1 := constantI S_ 1 1#1
  let main_v31 : IVec S_ 1 := (fun x v => Host.reduce IntOp.andi x v reducesTo_S256_S_d0 h_S_) main_v30 main_c_13
  (main_v3, main_v7, main_v11, main_v15, main_v19, main_v23, main_v27, main_v31)

def fn {F : FTy → Type} [FloatOps F] (main_arg0 : FVec F S20x24x128x128 .f32) (main_arg1 : FVec F S2x640x24x256 .bf16) (main_arg2 : FVec F S2x640x24x256 .bf16) (main_arg3 : FVec F S64x480x128 .f32) (main_arg4 : FVec F S20x64x128 .f32) (main_arg5 : FVec F S480x1 .f32) (main_arg6 : FVec F S2x24x128x256 .f32) (main_arg7 : FVec F S256 .f32) : IVec S_ 1 × IVec S_ 1 × IVec S_ 1 × IVec S_ 1 × IVec S_ 1 × IVec S_ 1 × IVec S_ 1 × IVec S_ 1 :=
  let main_v0 : FVec F S20x24x128x128 .f32 := Host.absf main_arg0
  let main_cst : FVec F S_ .f32 := constant S_ .f32 0x7F800000#32
  let main_v1 : FVec F S20x24x128x128 .f32 := broadcastInDim S20x24x128x128 ![] bcast_S_S20x24x128x128 main_cst
  let main_v2 : IVec S20x24x128x128 1 := cmpf .olt main_v0 main_v1
  let main_c : IVec S_ 1 := constantI S_ 1 1#1
  let main_v3 : IVec S_ 1 := (fun x v => Host.reduce IntOp.andi x v reducesTo_S20x24x128x128_S_d0_1_2_3 h_S_) main_v2 main_c
  let main_v4 : FVec F S2x640x24x256 .bf16 := Host.absf main_arg1
  let main_cst_0 : FVec F S_ .bf16 := constant S_ .bf16 0x7F80#16
  let main_v5 : FVec F S2x640x24x256 .bf16 := broadcastInDim S2x640x24x256 ![] bcast_S_S2x640x24x256 main_cst_0
  let main_v6 : IVec S2x640x24x256 1 := cmpf .olt main_v4 main_v5
  let main_c_1 : IVec S_ 1 := constantI S_ 1 1#1
  let main_v7 : IVec S_ 1 := (fun x v => Host.reduce IntOp.andi x v reducesTo_S2x640x24x256_S_d0_1_2_3 h_S_) main_v6 main_c_1
  let main_v8 : FVec F S64x480x128 .f32 := Host.absf main_arg3
  let main_cst_2 : FVec F S_ .f32 := constant S_ .f32 0x7F800000#32
  let main_v9 : FVec F S64x480x128 .f32 := broadcastInDim S64x480x128 ![] bcast_S_S64x480x128 main_cst_2
  let main_v10 : IVec S64x480x128 1 := cmpf .olt main_v8 main_v9
  let main_c_3 : IVec S_ 1 := constantI S_ 1 1#1
  let main_v11 : IVec S_ 1 := (fun x v => Host.reduce IntOp.andi x v reducesTo_S64x480x128_S_d0_1_2 h_S_) main_v10 main_c_3
  let main_v12 : FVec F S20x64x128 .f32 := Host.absf main_arg4
  let main_cst_4 : FVec F S_ .f32 := constant S_ .f32 0x7F800000#32
  let main_v13 : FVec F S20x64x128 .f32 := broadcastInDim S20x64x128 ![] bcast_S_S20x64x128 main_cst_4
  let main_v14 : IVec S20x64x128 1 := cmpf .olt main_v12 main_v13
  let main_c_5 : IVec S_ 1 := constantI S_ 1 1#1
  let main_v15 : IVec S_ 1 := (fun x v => Host.reduce IntOp.andi x v reducesTo_S20x64x128_S_d0_1_2 h_S_) main_v14 main_c_5
  fn_part1 (F := F) main_arg2 main_arg5 main_arg6 main_arg7 main_v3 main_v7 main_v11 main_v15
-- ==== Kernel.lean ====
abbrev S20x24x128x128 : Shape := ⟨4, ![20, 24, 128, 128]⟩
abbrev S2x640x24x256 : Shape := ⟨4, ![2, 640, 24, 256]⟩
abbrev S64x480x128 : Shape := ⟨3, ![64, 480, 128]⟩
abbrev S20x64x128 : Shape := ⟨3, ![20, 64, 128]⟩
abbrev S480x1 : Shape := ⟨2, ![480, 1]⟩
abbrev S2x24x128x256 : Shape := ⟨4, ![2, 24, 128, 256]⟩
abbrev S256 : Shape := ⟨1, ![256]⟩
abbrev S2x640x3x8x2x128 : Shape := ⟨6, ![2, 640, 3, 8, 2, 128]⟩
abbrev S2x640x3x2x8x128 : Shape := ⟨6, ![2, 640, 3, 2, 8, 128]⟩
abbrev S2x640x48x128 : Shape := ⟨4, ![2, 640, 48, 128]⟩
abbrev S480x128 : Shape := ⟨2, ![480, 128]⟩
abbrev S1x256 : Shape := ⟨2, ![1, 256]⟩
abbrev S2x10x1x64 : Shape := ⟨4, ![2, 10, 1, 64]⟩
abbrev S1x24x128x128 : Shape := ⟨4, ![1, 24, 128, 128]⟩
abbrev S1x64x48x128 : Shape := ⟨4, ![1, 64, 48, 128]⟩
abbrev S64x24x128 : Shape := ⟨3, ![64, 24, 128]⟩
abbrev S1x64x128 : Shape := ⟨3, ![1, 64, 128]⟩
abbrev S24x128 : Shape := ⟨2, ![24, 128]⟩
abbrev S1x24x128x256 : Shape := ⟨4, ![1, 24, 128, 256]⟩
abbrev S1x1x1x64 : Shape := ⟨4, ![1, 1, 1, 64]⟩
abbrev S24x128x256 : Shape := ⟨3, ![24, 128, 256]⟩
abbrev S3072x128 : Shape := ⟨2, ![3072, 128]⟩
abbrev S64x128 : Shape := ⟨2, ![64, 128]⟩
abbrev S1x64x24x128 : Shape := ⟨4, ![1, 64, 24, 128]⟩
abbrev S1x64x1x128 : Shape := ⟨4, ![1, 64, 1, 128]⟩
abbrev S1x64x2x128 : Shape := ⟨4, ![1, 64, 2, 128]⟩
abbrev S64x256 : Shape := ⟨2, ![64, 256]⟩
abbrev S1x1x128x128 : Shape := ⟨4, ![1, 1, 128, 128]⟩
abbrev S128x128 : Shape := ⟨2, ![128, 128]⟩
abbrev S1x128x256 : Shape := ⟨3, ![1, 128, 256]⟩
abbrev S128x256 : Shape := ⟨2, ![128, 256]⟩
abbrev S128x384 : Shape := ⟨2, ![128, 384]⟩
abbrev S384x256 : Shape := ⟨2, ![384, 256]⟩
abbrev S1536x128 : Shape := ⟨2, ![1536, 128]⟩
abbrev S1520x128 : Shape := ⟨2, ![1520, 128]⟩
abbrev S64 : Shape := ⟨1, ![64]⟩
abbrev S64x1 : Shape := ⟨2, ![64, 1]⟩
abbrev S64x384 : Shape := ⟨2, ![64, 384]⟩
abbrev S128x64 : Shape := ⟨2, ![128, 64]⟩
abbrev S192x256 : Shape := ⟨2, ![192, 256]⟩
abbrev S1x128 : Shape := ⟨2, ![1, 128]⟩
abbrev S128x192 : Shape := ⟨2, ![128, 192]⟩
abbrev S3040x128 : Shape := ⟨2, ![3040, 128]⟩
abbrev S1x64 : Shape := ⟨2, ![1, 64]⟩
abbrev S64x48x128 : Shape := ⟨3, ![64, 48, 128]⟩
abbrev S64x1x128 : Shape := ⟨3, ![64, 1, 128]⟩

abbrev nBuf : Space → Nat
  | .hbm => 20
  | .vmem => 23
  | .smem => 0
  | _ => 0

abbrev bufTy : (tb : Table) → Fin (tcTables nBuf tb) → BufTy
  | .hbm, ⟨0, _⟩ => ⟨S20x24x128x128, .f32⟩
  | .hbm, ⟨1, _⟩ => ⟨S2x640x24x256, .bf16⟩
  | .hbm, ⟨2, _⟩ => ⟨S2x640x24x256, .bf16⟩
  | .hbm, ⟨3, _⟩ => ⟨S64x480x128, .f32⟩
  | .hbm, ⟨4, _⟩ => ⟨S20x64x128, .f32⟩
  | .hbm, ⟨5, _⟩ => ⟨S480x1, .f32⟩
  | .hbm, ⟨6, _⟩ => ⟨S2x24x128x256, .f32⟩
  | .hbm, ⟨7, _⟩ => ⟨S256, .f32⟩
  | .hbm, ⟨8, _⟩ => ⟨S20x24x128x128, .fp8e4m3⟩
  | .hbm, ⟨9, _⟩ => ⟨S2x640x3x8x2x128, .bf16⟩
  | .hbm, ⟨10, _⟩ => ⟨S2x640x3x2x8x128, .bf16⟩
  | .hbm, ⟨11, _⟩ => ⟨S2x640x48x128, .bf16⟩
  | .hbm, ⟨12, _⟩ => ⟨S2x640x3x8x2x128, .bf16⟩
  | .hbm, ⟨13, _⟩ => ⟨S2x640x3x2x8x128, .bf16⟩
  | .hbm, ⟨14, _⟩ => ⟨S2x640x48x128, .bf16⟩
  | .hbm, ⟨15, _⟩ => ⟨S480x128, .f32⟩
  | .hbm, ⟨16, _⟩ => ⟨S1x256, .f32⟩
  | .hbm, ⟨17, _⟩ => ⟨S2x640x48x128, .fp8e4m3⟩
  | .hbm, ⟨18, _⟩ => ⟨S2x10x1x64, .f32⟩
  | .hbm, ⟨19, _⟩ => ⟨S2x24x128x256, .f32⟩
  | .local _ .vmem, ⟨0, _⟩ => ⟨S1x24x128x128, .fp8e4m3⟩
  | .local _ .vmem, ⟨1, _⟩ => ⟨S1x24x128x128, .fp8e4m3⟩
  | .local _ .vmem, ⟨2, _⟩ => ⟨S1x64x48x128, .bf16⟩
  | .local _ .vmem, ⟨3, _⟩ => ⟨S1x64x48x128, .bf16⟩
  | .local _ .vmem, ⟨4, _⟩ => ⟨S1x64x48x128, .bf16⟩
  | .local _ .vmem, ⟨5, _⟩ => ⟨S1x64x48x128, .bf16⟩
  | .local _ .vmem, ⟨6, _⟩ => ⟨S64x24x128, .f32⟩
  | .local _ .vmem, ⟨7, _⟩ => ⟨S64x24x128, .f32⟩
  | .local _ .vmem, ⟨8, _⟩ => ⟨S1x64x128, .f32⟩
  | .local _ .vmem, ⟨9, _⟩ => ⟨S1x64x128, .f32⟩
  | .local _ .vmem, ⟨10, _⟩ => ⟨S24x128, .f32⟩
  | .local _ .vmem, ⟨11, _⟩ => ⟨S24x128, .f32⟩
  | .local _ .vmem, ⟨12, _⟩ => ⟨S1x24x128x256, .f32⟩
  | .local _ .vmem, ⟨13, _⟩ => ⟨S1x24x128x256, .f32⟩
  | .local _ .vmem, ⟨14, _⟩ => ⟨S1x256, .f32⟩
  | .local _ .vmem, ⟨15, _⟩ => ⟨S1x64x48x128, .fp8e4m3⟩
  | .local _ .vmem, ⟨16, _⟩ => ⟨S1x64x48x128, .fp8e4m3⟩
  | .local _ .vmem, ⟨17, _⟩ => ⟨S1x1x1x64, .f32⟩
  | .local _ .vmem, ⟨18, _⟩ => ⟨S1x1x1x64, .f32⟩
  | .local _ .vmem, ⟨19, _⟩ => ⟨S1x24x128x256, .f32⟩
  | .local _ .vmem, ⟨20, _⟩ => ⟨S1x24x128x256, .f32⟩
  | .local _ .vmem, ⟨21, _⟩ => ⟨S24x128x256, .f32⟩
  | .local _ .vmem, ⟨22, _⟩ => ⟨S3072x128, .f32⟩
  | _, _ => ⟨S20x24x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [BitOps F]

abbrev grid0 : Pipeline.Grid := ⟨2, ![2, 10], ![false, false]⟩

@[reducible] def k0_t1_loop : Scf.Loop 32 :=
  let c0_i32_3 : BitVec 32 := 0#32
  let c3_i32 : BitVec 32 := 3#32
  let v10 : BitVec 32 := Scalar.addi c0_i32_3 c3_i32
  let c1_i32 : BitVec 32 := 1#32
  ⟨c0_i32_3, v10, c1_i32⟩
def k0_mult1 (k0_t1 : Fin k0_t1_loop.trips) : BitVec 32 :=
  let c8_i32 : BitVec 32 := 8#32
  let c0_i32_3 : BitVec 32 := 0#32
  let c1_i32 : BitVec 32 := 1#32
  let arg15 : BitVec 32 := Scf.iv c0_i32_3 c1_i32 k0_t1
  let v58 : BitVec 32 := Scalar.muli c8_i32 arg15
  v58
def k0_mult2 (k0_t1 : Fin k0_t1_loop.trips) : BitVec 32 :=
  let c16_i32 : BitVec 32 := 16#32
  let c0_i32_3 : BitVec 32 := 0#32
  let c1_i32 : BitVec 32 := 1#32
  let arg15 : BitVec 32 := Scf.iv c0_i32_3 c1_i32 k0_t1
  let v60 : BitVec 32 := Scalar.muli c16_i32 arg15
  v60
def k0_off1 (k0_t1 : Fin k0_t1_loop.trips) (c0_i32_31 : BitVec 32) (c0_i32_32 : BitVec 32) : Fin 4 → Nat :=
  let c0_33 : Index := 0#32
  let c0_34 : Index := 0#32
  let c8_i32_30 : BitVec 32 := 8#32
  let c0_i32_3 : BitVec 32 := 0#32
  let c1_i32 : BitVec 32 := 1#32
  let arg15 : BitVec 32 := Scf.iv c0_i32_3 c1_i32 k0_t1
  let v64 : BitVec 32 := Scalar.muli c8_i32_30 arg15
  let v65 : BitVec 32 := Scalar.addi v64 c0_i32_31
  let v66 : BitVec 32 := Scalar.addi v65 c0_i32_32
  let v68 : Index := Scalar.indexCast v66
  let c0_35 : Index := 0#32
  ![0, 0, Nat.mul 2 v68.toNat, 0]
def k0_off2 (k0_t1 : Fin k0_t1_loop.trips) (c0_i32_29 : BitVec 32) : Fin 4 → Nat :=
  let c0_57 : Index := 0#32
  let c8_i32_28 : BitVec 32 := 8#32
  let c0_i32_3 : BitVec 32 := 0#32
  let c1_i32 : BitVec 32 := 1#32
  let arg15 : BitVec 32 := Scf.iv c0_i32_3 c1_i32 k0_t1
  let v62 : BitVec 32 := Scalar.muli c8_i32_28 arg15
  let v63 : BitVec 32 := Scalar.addi v62 c0_i32_29
  let v106 : Index := Scalar.indexCast v63
  let c0_58 : Index := 0#32
  let c0_59 : Index := 0#32
  ![0, v106.toNat, 0, 0]
def k0_off3 (k0_t1 : Fin k0_t1_loop.trips) (c0_i32_29 : BitVec 32) : Fin 3 → Nat :=
  let c8_i32_28 : BitVec 32 := 8#32
  let c0_i32_3 : BitVec 32 := 0#32
  let c1_i32 : BitVec 32 := 1#32
  let arg15 : BitVec 32 := Scf.iv c0_i32_3 c1_i32 k0_t1
  let v62 : BitVec 32 := Scalar.muli c8_i32_28 arg15
  let v63 : BitVec 32 := Scalar.addi v62 c0_i32_29
  let v110 : Index := Scalar.indexCast v63
  let c0_60 : Index := 0#32
  let c0_61 : Index := 0#32
  ![v110.toNat, 0, 0]
def k0_off4 (k0_t1 : Fin k0_t1_loop.trips) : Fin 2 → Nat :=
  let c8_i32 : BitVec 32 := 8#32
  let c0_i32_3 : BitVec 32 := 0#32
  let c1_i32 : BitVec 32 := 1#32
  let arg15 : BitVec 32 := Scf.iv c0_i32_3 c1_i32 k0_t1
  let v58 : BitVec 32 := Scalar.muli c8_i32 arg15
  let v59 : BitVec 32 := v58
  let c0_i32_64 : BitVec 32 := 0#32
  ![v59.toNat, 0]
def k0_off5 (k0_t1 : Fin k0_t1_loop.trips) (c0_i32_29 : BitVec 32) : Fin 2 → Nat :=
  let c8_i32_28 : BitVec 32 := 8#32
  let c0_i32_3 : BitVec 32 := 0#32
  let c1_i32 : BitVec 32 := 1#32
  let arg15 : BitVec 32 := Scf.iv c0_i32_3 c1_i32 k0_t1
  let v62 : BitVec 32 := Scalar.muli c8_i32_28 arg15
  let v63 : BitVec 32 := Scalar.addi v62 c0_i32_29
  let v255 : Index := Scalar.indexCast v63
  let c0_87 : Index := 0#32
  ![v255.toNat, 0]
def k0_off6 (k0_t1 : Fin k0_t1_loop.trips) : Fin 2 → Nat :=
  let c16_i32 : BitVec 32 := 16#32
  let c0_i32_3 : BitVec 32 := 0#32
  let c1_i32 : BitVec 32 := 1#32
  let arg15 : BitVec 32 := Scf.iv c0_i32_3 c1_i32 k0_t1
  let v60 : BitVec 32 := Scalar.muli c16_i32 arg15
  let v61 : BitVec 32 := v60
  let c0_i32_96 : BitVec 32 := 0#32
  ![v61.toNat, 0]
@[reducible] def k0_t2_loop : Scf.Loop 32 :=
  let c1_i32_8 : BitVec 32 := 1#32
  let c255_i32 : BitVec 32 := 255#32
  let v19 : BitVec 32 := Scalar.addi c1_i32_8 c255_i32
  let c1_i32_9 : BitVec 32 := 1#32
  ⟨c1_i32_8, v19, c1_i32_9⟩
def k0_cond2 (i : grid0.Coords) : BitVec 1 :=
  let arg1 : BitVec 32 := BitVec.ofNat 32 (i 1).val
  let c9_i32 : BitVec 32 := 9#32
  let v55 : BitVec 1 := Scalar.cmpi .eq arg1 c9_i32
  let v56 : BitVec 32 := Scalar.extui v55
  let c0_i32_27 : BitVec 32 := 0#32
  let v57 : BitVec 1 := Scalar.cmpi .ne v56 c0_i32_27
  v57

def cc0_transform_0 (i : grid0.Coords) : Fin 4 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x24x128x128 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x48x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x48x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x24x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S24x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x24x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x64x48x128 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x1x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x24x128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== KernelIdeal.lean ====
variable {F : FTy → Type} [FloatOps F]
-- ==== ReferenceIdeal.lean ====
abbrev S20x24x128x128 : Shape := ⟨4, ![20, 24, 128, 128]⟩
abbrev S2x640x24x256 : Shape := ⟨4, ![2, 640, 24, 256]⟩
abbrev S64x480x128 : Shape := ⟨3, ![64, 480, 128]⟩
abbrev S20x64x128 : Shape := ⟨3, ![20, 64, 128]⟩
abbrev S480x1 : Shape := ⟨2, ![480, 1]⟩
abbrev S2x24x128x256 : Shape := ⟨4, ![2, 24, 128, 256]⟩
abbrev S256 : Shape := ⟨1, ![256]⟩
abbrev S2x10x1x64 : Shape := ⟨4, ![2, 10, 1, 64]⟩
abbrev S1x24x128x256 : Shape := ⟨4, ![1, 24, 128, 256]⟩
abbrev S24x128x256 : Shape := ⟨3, ![24, 128, 256]⟩
abbrev S1x24x64x128 : Shape := ⟨4, ![1, 24, 64, 128]⟩
abbrev S24x64x128 : Shape := ⟨3, ![24, 64, 128]⟩
abbrev S1x64x24x256 : Shape := ⟨4, ![1, 64, 24, 256]⟩
abbrev S64x24x256 : Shape := ⟨3, ![64, 24, 256]⟩
abbrev S24x64x256 : Shape := ⟨3, ![24, 64, 256]⟩
abbrev S64x24x64 : Shape := ⟨3, ![64, 24, 64]⟩
abbrev S24x64x64 : Shape := ⟨3, ![24, 64, 64]⟩
abbrev S1x64x24 : Shape := ⟨3, ![1, 64, 24]⟩
abbrev S64x24 : Shape := ⟨2, ![64, 24]⟩
abbrev S24x64 : Shape := ⟨2, ![24, 64]⟩
abbrev S24x1 : Shape := ⟨2, ![24, 1]⟩
abbrev S24x64x1 : Shape := ⟨3, ![24, 64, 1]⟩
abbrev S1x1x256 : Shape := ⟨3, ![1, 1, 256]⟩
abbrev S64x1 : Shape := ⟨2, ![64, 1]⟩
abbrev S1x64x1 : Shape := ⟨3, ![1, 64, 1]⟩
abbrev S1x64x256 : Shape := ⟨3, ![1, 64, 256]⟩
abbrev S1x64 : Shape := ⟨2, ![1, 64]⟩
abbrev S1x1x1x64 : Shape := ⟨4, ![1, 1, 1, 64]⟩
abbrev S24x1x1 : Shape := ⟨3, ![24, 1, 1]⟩

abbrev nBuf : Space → Nat
  | .hbm => 11
  | .vmem => 10
  | .smem => 0
  | _ => 0

abbrev bufTy : (tb : Table) → Fin (tcTables nBuf tb) → BufTy
  | .hbm, ⟨0, _⟩ => ⟨S20x24x128x128, .f32⟩
  | .hbm, ⟨1, _⟩ => ⟨S2x640x24x256, .bf16⟩
  | .hbm, ⟨2, _⟩ => ⟨S2x640x24x256, .bf16⟩
  | .hbm, ⟨3, _⟩ => ⟨S64x480x128, .f32⟩
  | .hbm, ⟨4, _⟩ => ⟨S20x64x128, .f32⟩
  | .hbm, ⟨5, _⟩ => ⟨S480x1, .f32⟩
  | .hbm, ⟨6, _⟩ => ⟨S2x24x128x256, .f32⟩
  | .hbm, ⟨7, _⟩ => ⟨S256, .f32⟩
  | .hbm, ⟨8, _⟩ => ⟨S20x24x128x128, .fp8e4m3⟩
  | .hbm, ⟨9, _⟩ => ⟨S2x10x1x64, .f32⟩
  | .hbm, ⟨10, _⟩ => ⟨S2x24x128x256, .f32⟩
  | .local _ .vmem, ⟨0, _⟩ => ⟨S20x24x128x128, .fp8e4m3⟩
  | .local _ .vmem, ⟨1, _⟩ => ⟨S2x640x24x256, .bf16⟩
  | .local _ .vmem, ⟨2, _⟩ => ⟨S2x640x24x256, .bf16⟩
  | .local _ .vmem, ⟨3, _⟩ => ⟨S64x480x128, .f32⟩
  | .local _ .vmem, ⟨4, _⟩ => ⟨S20x64x128, .f32⟩
  | .local _ .vmem, ⟨5, _⟩ => ⟨S480x1, .f32⟩
  | .local _ .vmem, ⟨6, _⟩ => ⟨S2x24x128x256, .f32⟩
  | .local _ .vmem, ⟨7, _⟩ => ⟨S256, .f32⟩
  | .local _ .vmem, ⟨8, _⟩ => ⟨S2x10x1x64, .f32⟩
  | .local _ .vmem, ⟨9, _⟩ => ⟨S2x24x128x256, .f32⟩
  | _, _ => ⟨S20x24x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c10_i32 : BitVec 32 := 10#32
  let v2 : BitVec 32 := Scalar.addi c0_i32 c10_i32
  let c1_i32 : BitVec 32 := 1#32
  ⟨c0_i32, v2, c1_i32⟩
def k0_off1 (k0_t1 : Fin k0_t1_loop.trips) : Fin 4 → Nat :=
  let c0_i32_19 : BitVec 32 := 0#32
  let c0_i32 : BitVec 32 := 0#32
  let c1_i32 : BitVec 32 := 1#32
  let arg10 : BitVec 32 := Scf.iv c0_i32 c1_i32 k0_t1
  let v14 : BitVec 32 := Scalar.addi c0_i32_19 arg10
  let v16 : Index := Scalar.indexCast v14
  let c0_20 : Index := 0#32
  let c0_21 : Index := 0#32
  let c0_22 : Index := 0#32
  ![v16.toNat, 0, 0, 0]
def k0_off2 (k0_t1 : Fin k0_t1_loop.trips) : Fin 4 → Nat :=
  let c0_i32_19 : BitVec 32 := 0#32
  let c0_i32 : BitVec 32 := 0#32
  let c1_i32 : BitVec 32 := 1#32
  let arg10 : BitVec 32 := Scf.iv c0_i32 c1_i32 k0_t1
  let v14 : BitVec 32 := Scalar.addi c0_i32_19 arg10
  let v20 : Index := Scalar.indexCast v14
  let c0_23 : Index := 0#32
  let c64 : Index := 64#32
  let c0_24 : Index := 0#32
  ![v20.toNat, 0, 64, 0]
def k0_off3 (k0_t1 : Fin k0_t1_loop.trips) : Fin 4 → Nat :=
  let c0_25 : Index := 0#32
  let c0_i32 : BitVec 32 := 0#32
  let c1_i32 : BitVec 32 := 1#32
  let arg10 : BitVec 32 := Scf.iv c0_i32 c1_i32 k0_t1
  let c64_i32 : BitVec 32 := 64#32
  let v15 : BitVec 32 := Scalar.muli arg10 c64_i32
  let v24 : Index := Scalar.indexCast v15
  let c0_26 : Index := 0#32
  let c0_27 : Index := 0#32
  ![0, v24.toNat, 0, 0]
def k0_off4 (k0_t1 : Fin k0_t1_loop.trips) : Fin 3 → Nat :=
  let c0_28 : Index := 0#32
  let c0_i32_19 : BitVec 32 := 0#32
  let c0_i32 : BitVec 32 := 0#32
  let c1_i32 : BitVec 32 := 1#32
  let arg10 : BitVec 32 := Scf.iv c0_i32 c1_i32 k0_t1
  let v14 : BitVec 32 := Scalar.addi c0_i32_19 arg10
  let c24_i32 : BitVec 32 := 24#32
  let v29 : BitVec 32 := Scalar.muli v14 c24_i32
  let v30 : Index := Scalar.indexCast v29
  let c0_29 : Index := 0#32
  ![0, v30.toNat, 0]
def k0_off5 (k0_t1 : Fin k0_t1_loop.trips) : Fin 3 → Nat :=
  let c0_31 : Index := 0#32
  let c0_i32_19 : BitVec 32 := 0#32
  let c0_i32 : BitVec 32 := 0#32
  let c1_i32 : BitVec 32 := 1#32
  let arg10 : BitVec 32 := Scf.iv c0_i32 c1_i32 k0_t1
  let v14 : BitVec 32 := Scalar.addi c0_i32_19 arg10
  let c24_i32_30 : BitVec 32 := 24#32
  let v33 : BitVec 32 := Scalar.muli v14 c24_i32_30
  let v34 : Index := Scalar.indexCast v33
  let c64_32 : Index := 64#32
  ![0, v34.toNat, 64]
def k0_off6 (k0_t1 : Fin k0_t1_loop.trips) : Fin 3 → Nat :=
  let c0_i32_19 : BitVec 32 := 0#32
  let c0_i32 : BitVec 32 := 0#32
  let c1_i32 : BitVec 32 := 1#32
  let arg10 : BitVec 32 := Scf.iv c0_i32 c1_i32 k0_t1
  let v14 : BitVec 32 := Scalar.addi c0_i32_19 arg10
  let v37 : Index := Scalar.indexCast v14
  let c0_33 : Index := 0#32
  let c0_34 : Index := 0#32
  ![v37.toNat, 0, 0]
def k0_off7 (k0_t1 : Fin k0_t1_loop.trips) : Fin 3 → Nat :=
  let c0_i32_19 : BitVec 32 := 0#32
  let c0_i32 : BitVec 32 := 0#32
  let c1_i32 : BitVec 32 := 1#32
  let arg10 : BitVec 32 := Scf.iv c0_i32 c1_i32 k0_t1
  let v14 : BitVec 32 := Scalar.addi c0_i32_19 arg10
  let v41 : Index := Scalar.indexCast v14
  let c0_35 : Index := 0#32
  let c32 : Index := 32#32
  ![v41.toNat, 0, 32]
def k0_off8 (k0_t1 : Fin k0_t1_loop.trips) : Fin 3 → Nat :=
  let c0_i32_19 : BitVec 32 := 0#32
  let c0_i32 : BitVec 32 := 0#32
  let c1_i32 : BitVec 32 := 1#32
  let arg10 : BitVec 32 := Scf.iv c0_i32 c1_i32 k0_t1
  let v14 : BitVec 32 := Scalar.addi c0_i32_19 arg10
  let v45 : Index := Scalar.indexCast v14
  let c0_36 : Index := 0#32
  let c64_37 : Index := 64#32
  ![v45.toNat, 0, 64]
def k0_off9 (k0_t1 : Fin k0_t1_loop.trips) : Fin 2 → Nat :=
  let c0_i32_19 : BitVec 32 := 0#32
  let c0_i32 : BitVec 32 := 0#32
  let c1_i32 : BitVec 32 := 1#32
  let arg10 : BitVec 32 := Scf.iv c0_i32 c1_i32 k0_t1
  let v14 : BitVec 32 := Scalar.addi c0_i32_19 arg10
  let c24_i32_38 : BitVec 32 := 24#32
  let v49 : BitVec 32 := Scalar.muli v14 c24_i32_38
  let v50 : Index := Scalar.indexCast v49
  let c0_39 : Index := 0#32
  ![v50.toNat, 0]
def k0_off10 (k0_t1 : Fin k0_t1_loop.trips) : Fin 4 → Nat :=
  let c0_58 : Index := 0#32
  let c0_i32 : BitVec 32 := 0#32
  let c1_i32 : BitVec 32 := 1#32
  let arg10 : BitVec 32 := Scf.iv c0_i32 c1_i32 k0_t1
  let v114 : Index := Scalar.indexCast arg10
  let c0_59 : Index := 0#32
  let c0_60 : Index := 0#32
  ![0, v114.toNat, 0, 0]
@[reducible] def k0_t2_loop : Scf.Loop 32 :=
  let c0_i32_11 : BitVec 32 := 0#32
  let c10_i32_12 : BitVec 32 := 10#32
  let v9 : BitVec 32 := Scalar.addi c0_i32_11 c10_i32_12
  let c1_i32_13 : BitVec 32 := 1#32
  ⟨c0_i32_11, v9, c1_i32_13⟩
def k0_off11 (k0_t2 : Fin k0_t2_loop.trips) : Fin 4 → Nat :=
  let c10_i32_19 : BitVec 32 := 10#32
  let c0_i32_11 : BitVec 32 := 0#32
  let c1_i32_13 : BitVec 32 := 1#32
  let arg10 : BitVec 32 := Scf.iv c0_i32_11 c1_i32_13 k0_t2
  let v14 : BitVec 32 := Scalar.addi c10_i32_19 arg10
  let v16 : Index := Scalar.indexCast v14
  let c0_20 : Index := 0#32
  let c0_21 : Index := 0#32
  let c0_22 : Index := 0#32
  ![v16.toNat, 0, 0, 0]
def k0_off12 (k0_t2 : Fin k0_t2_loop.trips) : Fin 4 → Nat :=
  let c10_i32_19 : BitVec 32 := 10#32
  let c0_i32_11 : BitVec 32 := 0#32
  let c1_i32_13 : BitVec 32 := 1#32
  let arg10 : BitVec 32 := Scf.iv c0_i32_11 c1_i32_13 k0_t2
  let v14 : BitVec 32 := Scalar.addi c10_i32_19 arg10
  let v20 : Index := Scalar.indexCast v14
  let c0_23 : Index := 0#32
  let c64 : Index := 64#32
  let c0_24 : Index := 0#32
  ![v20.toNat, 0, 64, 0]
def k0_off13 (k0_t2 : Fin k0_t2_loop.trips) : Fin 4 → Nat :=
  let c1_25 : Index := 1#32
  let c0_i32_11 : BitVec 32 := 0#32
  let c1_i32_13 : BitVec 32 := 1#32
  let arg10 : BitVec 32 := Scf.iv c0_i32_11 c1_i32_13 k0_t2
  let c64_i32 : BitVec 32 := 64#32
  let v15 : BitVec 32 := Scalar.muli arg10 c64_i32
  let v24 : Index := Scalar.indexCast v15
  let c0_26 : Index := 0#32
  let c0_27 : Index := 0#32
  ![1, v24.toNat, 0, 0]
def k0_off14 (k0_t2 : Fin k0_t2_loop.trips) : Fin 3 → Nat :=
  let c0_28 : Index := 0#32
  let c10_i32_19 : BitVec 32 := 10#32
  let c0_i32_11 : BitVec 32 := 0#32
  let c1_i32_13 : BitVec 32 := 1#32
  let arg10 : BitVec 32 := Scf.iv c0_i32_11 c1_i32_13 k0_t2
  let v14 : BitVec 32 := Scalar.addi c10_i32_19 arg10
  let c24_i32 : BitVec 32 := 24#32
  let v29 : BitVec 32 := Scalar.muli v14 c24_i32
  let v30 : Index := Scalar.indexCast v29
  let c0_29 : Index := 0#32
  ![0, v30.toNat, 0]
def k0_off15 (k0_t2 : Fin k0_t2_loop.trips) : Fin 3 → Nat :=
  let c0_31 : Index := 0#32
  let c10_i32_19 : BitVec 32 := 10#32
  let c0_i32_11 : BitVec 32 := 0#32
  let c1_i32_13 : BitVec 32 := 1#32
  let arg10 : BitVec 32 := Scf.iv c0_i32_11 c1_i32_13 k0_t2
  let v14 : BitVec 32 := Scalar.addi c10_i32_19 arg10
  let c24_i32_30 : BitVec 32 := 24#32
  let v33 : BitVec 32 := Scalar.muli v14 c24_i32_30
  let v34 : Index := Scalar.indexCast v33
  let c64_32 : Index := 64#32
  ![0, v34.toNat, 64]
def k0_off16 (k0_t2 : Fin k0_t2_loop.trips) : Fin 3 → Nat :=
  let c10_i32_19 : BitVec 32 := 10#32
  let c0_i32_11 : BitVec 32 := 0#32
  let c1_i32_13 : BitVec 32 := 1#32
  let arg10 : BitVec 32 := Scf.iv c0_i32_11 c1_i32_13 k0_t2
  let v14 : BitVec 32 := Scalar.addi c10_i32_19 arg10
  let v37 : Index := Scalar.indexCast v14
  let c0_33 : Index := 0#32
  let c0_34 : Index := 0#32
  ![v37.toNat, 0, 0]
def k0_off17 (k0_t2 : Fin k0_t2_loop.trips) : Fin 3 → Nat :=
  let c10_i32_19 : BitVec 32 := 10#32
  let c0_i32_11 : BitVec 32 := 0#32
  let c1_i32_13 : BitVec 32 := 1#32
  let arg10 : BitVec 32 := Scf.iv c0_i32_11 c1_i32_13 k0_t2
  let v14 : BitVec 32 := Scalar.addi c10_i32_19 arg10
  let v41 : Index := Scalar.indexCast v14
  let c0_35 : Index := 0#32
  let c32 : Index := 32#32
  ![v41.toNat, 0, 32]
def k0_off18 (k0_t2 : Fin k0_t2_loop.trips) : Fin 3 → Nat :=
  let c10_i32_19 : BitVec 32 := 10#32
  let c0_i32_11 : BitVec 32 := 0#32
  let c1_i32_13 : BitVec 32 := 1#32
  let arg10 : BitVec 32 := Scf.iv c0_i32_11 c1_i32_13 k0_t2
  let v14 : BitVec 32 := Scalar.addi c10_i32_19 arg10
  let v45 : Index := Scalar.indexCast v14
  let c0_36 : Index := 0#32
  let c64_37 : Index := 64#32
  ![v45.toNat, 0, 64]
def k0_off19 (k0_t2 : Fin k0_t2_loop.trips) : Fin 2 → Nat :=
  let c10_i32_19 : BitVec 32 := 10#32
  let c0_i32_11 : BitVec 32 := 0#32
  let c1_i32_13 : BitVec 32 := 1#32
  let arg10 : BitVec 32 := Scf.iv c0_i32_11 c1_i32_13 k0_t2
  let v14 : BitVec 32 := Scalar.addi c10_i32_19 arg10
  let c24_i32_38 : BitVec 32 := 24#32
  let v49 : BitVec 32 := Scalar.muli v14 c24_i32_38
  let v50 : Index := Scalar.indexCast v49
  let c0_39 : Index := 0#32
  ![v50.toNat, 0]
def k0_off20 (k0_t2 : Fin k0_t2_loop.trips) : Fin 4 → Nat :=
  let c1_58 : Index := 1#32
  let c0_i32_11 : BitVec 32 := 0#32
  let c1_i32_13 : BitVec 32 := 1#32
  let arg10 : BitVec 32 := Scf.iv c0_i32_11 c1_i32_13 k0_t2
  let v114 : Index := Scalar.indexCast arg10
  let c0_59 : Index := 0#32
  let c0_60 : Index := 0#32
  ![1, v114.toNat, 0, 0]
abbrev stage0_0 : Fin 1 → Memref sig .tc .vmem S20x24x128x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x640x24x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x640x24x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x480x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S20x64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S480x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x24x128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x10x1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x24x128x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Sums.lean ====
module

public import Idealize.ShloMosaic.Lib.WordCmp
public import Idealize.ShloMosaic.Lib.Pointwise

@[expose] public section

/-! Sums of finite numbers read as extended reals. -/

noncomputable section

namespace Cert.Proof

open Idealize.ShloMosaic

/-- A sum of finite numbers is finite, and is the sum of the numbers. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A sum whose terms vanish after the first `a` is the sum of those. -/
theorem sum_head {a N : ℕ} (ha : a ≤ N) (G : Fin N → EReal) (g : Fin a → EReal)
    (h1 : ∀ j : Fin a, G (Fin.castLE ha j) = g j) (h0 : ∀ x : Fin N, a ≤ x.val → G x = 0) : ∑ x, G x = ∑ j, g j := by
  obtain ⟨b, rfl⟩ := Nat.exists_eq_add_of_le ha
  rw [Fin.sum_univ_add]
  have e1 : ∀ j : Fin a, G (Fin.castAdd b j) = g j := fun j => h1 j
  have e0 : ∀ j : Fin b, G (Fin.natAdd a j) = 0 := fun j => h0 _ (Nat.le_add_right a j.val)
  simp only [e1, e0, Finset.sum_const_zero, add_zero]

/-- A sum with one term that does not vanish is that term. -/
theorem sum_pick {N : ℕ} (G : Fin N → EReal) (k : Fin N) (h0 : ∀ x, x ≠ k → G x = 0) : ∑ x, G x = G k :=
  Finset.sum_eq_single k (fun x _ hx => h0 x hx) (fun h => absurd (Finset.mem_univ k) h)

/-- Choosing a number by a comparison of two numbers below a bound. -/
theorem select_slt {α : Type} {a b : ℕ} (u v : α) (ha : a < 2 ^ 31) (hb : b < 2 ^ 31) :
    Scalar.select (IntOp.cmpi .slt (BitVec.ofNat 32 a) (BitVec.ofNat 32 b)) u v = if a < b then u else v := by
  rw [Idealize.ShloMosaic.WordCmp.cmpi_slt_ofNat ha hb]
  by_cases h : a < b <;> simp [Scalar.select, h]

theorem select_eq {α : Type} {a b : ℕ} (u v : α) (ha : a < 2 ^ 32) (hb : b < 2 ^ 32) :
    Scalar.select (IntOp.cmpi .eq (BitVec.ofNat 32 a) (BitVec.ofNat 32 b)) u v = if a = b then u else v := by
  rw [Idealize.ShloMosaic.WordCmp.cmpi_eq_ofNat ha hb]
  by_cases h : a = b <;> simp [Scalar.select, h]

/-- Choosing between two finite numbers gives a finite number. -/
theorem select_coe (c : BitVec 1) (a b : ℝ) : Scalar.select c (a : EReal) (b : EReal) = ((Scalar.select c a b : ℝ) : EReal) := by
  unfold Scalar.select; split <;> rfl

theorem select_same {α : Type} (c : BitVec 1) (a : α) : Scalar.select c a a = a := by
  unfold Scalar.select; split <;> rfl

end Cert.Proof

end
-- ==== Proof.Quantise.lean ====
module

public import Idealize.ShloMosaic.PureOps.Ideal
public import Idealize.ShloMosaic.PureOps.Ideal.Laws
public import Idealize.ShloMosaic.Lib.IdealHost

@[expose] public section

noncomputable section

namespace Cert.Proof

open Idealize.ShloMosaic

/-! The quantiser's scale: one below the smallest normal number, and the least power of two above `x` elsewhere. -/

/-- The exponent of the largest power of two at most `x`. -/
def log2 (x : ℝ) : ℤ := if h : 0 < x then (exists_mem_Ico_zpow h (one_lt_two)).choose else 0

theorem log2_spec {x : ℝ} (hx : 0 < x) : (2 : ℝ) ^ log2 x ≤ x ∧ x < (2 : ℝ) ^ (log2 x + 1) := by
  unfold log2
  rw [dif_pos hx]
  exact (exists_mem_Ico_zpow hx (one_lt_two)).choose_spec

/-- The scale of a group whose largest output over 448 is `x`. -/
def scaleOf (x : ℝ) : ℝ := if x < 2 ^ (-126 : ℤ) then 1 else 2 ^ (log2 x + 1)

theorem lt_pow_iff {x : ℝ} (hx : 0 < x) (k : ℤ) : x < (2 : ℝ) ^ k ↔ log2 x < k := by
  obtain ⟨h1, h2⟩ := log2_spec hx
  constructor
  · intro h
    exact (zpow_lt_zpow_iff_right₀ (one_lt_two)).mp (h1.trans_lt h)
  · intro h
    exact h2.trans_le (zpow_le_zpow_right₀ (one_le_two) (by omega))

theorem pow_le_iff {x : ℝ} (hx : 0 < x) (k : ℤ) : (2 : ℝ) ^ k ≤ x ↔ k ≤ log2 x := by
  rw [← not_lt, lt_pow_iff hx, not_lt]

/-- The sign, the exponent and the fraction of the word with biased exponent `j` and no fraction. -/
theorem word_fields : ∀ j : Fin 255, (BitVec.ofNat 32 (j.val * 8388608)).extractLsb' 31 1 = 0#1
    ∧ ((BitVec.ofNat 32 (j.val * 8388608)).extractLsb' 23 8).toNat = j.val ∧ ((BitVec.ofNat 32 (j.val * 8388608)).extractLsb' 0 23).toNat = 0 := by
  decide +kernel

/-- The word with biased exponent `j` and no fraction is a power of two. -/
theorem word_pow (j : ℕ) (h1 : 1 ≤ j) (h2 : j ≤ 254) :
    Ideal.ofBits .f32 (BitVec.ofNat 32 (j * 8388608)) = (((2 : ℝ) ^ ((j : ℤ) - 127) : ℝ) : EReal) := by
  obtain ⟨hs, he, hf⟩ := word_fields ⟨j, by omega⟩
  simp only at hs he hf
  have e : (2 : ℝ) ^ ((j : ℤ) - 127) = 8388608 * 2 ^ ((j : ℤ) - 127 - 23) := by
    rw [show (8388608 : ℝ) = 2 ^ (23 : ℤ) by norm_num, ← zpow_add₀ (two_ne_zero)]
    exact congrArg (fun z : ℤ => (2 : ℝ) ^ z) (by ring)
  have h8 : (((2 ^ 23 + 0 : ℕ) : ℕ) : ℝ) = 8388608 := by norm_num
  have hb : ((2 : ℤ) ^ (8 - 1) - 1) = 127 := by norm_num
  have hsg : (if ((0#1 : BitVec 1) == 1#1) = true then (-1 : ℝ) else 1) = 1 := if_neg (by decide)
  show Ideal.ieee 8 23 _ = _
  unfold Ideal.ieee
  simp only [Nat.reduceAdd, hs, he, hf]
  rw [if_neg (by omega), if_neg (by omega), e]
  refine EReal.coe_eq_coe_iff.mpr ?_
  simp only [h8, hb, hsg, one_mul, Nat.cast_ofNat]

/-- How many of the 255 exponents from -126 on give a power of two at most `x`. -/
def countAt (x : ℝ) : ℕ := (Finset.univ.filter fun k : Fin 255 => (2 : ℝ) ^ ((k.val : ℤ) + 1 - 127) ≤ x).card

theorem countAt_small {x : ℝ} (h : x < 2 ^ (-126 : ℤ)) : countAt x = 0 := by
  unfold countAt
  rw [Finset.card_eq_zero, Finset.filter_eq_empty_iff]
  intro k _ hk
  have : (2 : ℝ) ^ (-126 : ℤ) ≤ 2 ^ ((k.val : ℤ) + 1 - 127) := zpow_le_zpow_right₀ (by norm_num) (by omega)
  exact absurd (this.trans hk) (not_le.mpr h)

theorem countAt_large {x : ℝ} (h : 2 ^ (-126 : ℤ) ≤ x) (h' : x < 2 ^ (126 : ℤ)) : ∃ c : ℕ, countAt x = c ∧ (c : ℤ) = log2 x + 127 ∧ 1 ≤ c ∧ c ≤ 252 := by
  have hx : 0 < x := lt_of_lt_of_le (by positivity) h
  have h1 : -126 ≤ log2 x := (pow_le_iff hx _).mp h
  have h2 : log2 x < 126 := (lt_pow_iff hx _).mp h'
  obtain ⟨c, hc⟩ : ∃ c : ℕ, (c : ℤ) = log2 x + 127 := ⟨(log2 x + 127).toNat, by omega⟩
  refine ⟨c, ?_, hc, by omega, by omega⟩
  unfold countAt
  have e : (Finset.univ.filter fun k : Fin 255 => (2 : ℝ) ^ ((k.val : ℤ) + 1 - 127) ≤ x) = Finset.univ.filter fun k : Fin 255 => k < (⟨c, by omega⟩ : Fin 255) := by
    refine Finset.filter_congr fun k _ => ?_
    rw [pow_le_iff hx, Fin.lt_def]
    show _ ↔ k.val < c
    omega
  rw [e]
  refine Eq.trans ?_ (Fin.card_Iio (⟨c, by omega⟩ : Fin 255))
  refine congrArg Finset.card (Finset.ext fun k => ?_)
  simp

/-- The scale is the word whose biased exponent is one more than the count, and one where the count is zero. -/
theorem scale_word {x : ℝ} (h' : x < 2 ^ (126 : ℤ)) (j : ℕ) (hj : j = if countAt x = 0 then 127 else countAt x + 1) :
    Ideal.ofBits .f32 (BitVec.ofNat 32 (j * 8388608)) = ((scaleOf x : ℝ) : EReal) := by
  unfold scaleOf
  by_cases h : x < 2 ^ (-126 : ℤ)
  · rw [if_pos (countAt_small h)] at hj
    subst hj
    rw [word_pow 127 (by decide) (by decide), if_pos h]
    norm_num
  · obtain ⟨c, e, hc, c1, c2⟩ := countAt_large (not_lt.mp h) h'
    rw [if_neg (by omega), e] at hj
    subst hj
    rw [word_pow _ (by omega) (by omega), if_neg h]
    congr 2
    push_cast
    omega

/-- The scale is also the least of the powers of two from exponent -125 on that are above `x`. -/
theorem scale_min {x : ℝ} (h : ¬ x < 2 ^ (-126 : ℤ)) (h' : x < 2 ^ (126 : ℤ)) (f : Fin 256 → EReal)
    (hf : ∀ i, f i = if x < (2 : ℝ) ^ ((i.val : ℤ) - 125) then (((2 : ℝ) ^ ((i.val : ℤ) - 125) : ℝ) : EReal) else ⊤) :
    Finset.fold min ⊤ f Finset.univ = ((scaleOf x : ℝ) : EReal) := by
  have hx : 0 < x := lt_of_lt_of_le (by positivity) (not_lt.mp h)
  have h1 : -126 ≤ log2 x := (pow_le_iff hx _).mp (not_lt.mp h)
  have h2 : log2 x < 126 := (lt_pow_iff hx _).mp h'
  obtain ⟨i, hi⟩ : ∃ i : ℕ, (i : ℤ) = log2 x + 126 := ⟨(log2 x + 126).toNat, by omega⟩
  unfold scaleOf
  rw [if_neg h]
  apply le_antisymm
  · rw [Finset.fold_min_le]
    refine Or.inr ⟨⟨i, by omega⟩, Finset.mem_univ _, ?_⟩
    have e : ((i : ℕ) : ℤ) - 125 = log2 x + 1 := by omega
    rw [hf]
    simp only [e]
    rw [if_pos ((lt_pow_iff hx _).mpr (by omega))]
  · rw [Finset.le_fold_min]
    refine ⟨le_top, fun k _ => ?_⟩
    rw [hf]
    split_ifs with hk
    · rw [lt_pow_iff hx] at hk
      exact EReal.coe_le_coe_iff.mpr (zpow_le_zpow_right₀ (by norm_num) (by omega))
    · exact le_top

/-- The word that stands for one over 448. -/
def perTop : ℝ := (Ideal.ofBits .f32 0x3B124925#32).toReal
theorem perTop_eq : Ideal.ofBits .f32 0x3B124925#32 = ((9586981 * 2 ^ (-32 : ℤ) : ℝ) : EReal) := by
  simp [Ideal.ofBits, Ideal.ieee, -EReal.coe_mul]
theorem perTop_coe : Ideal.ofBits .f32 0x3B124925#32 = ((perTop : ℝ) : EReal) := by
  unfold perTop; rw [perTop_eq, EReal.toReal_coe]
theorem perTop_pos : 0 < perTop := by unfold perTop; rw [perTop_eq, EReal.toReal_coe]; positivity
theorem perTop_le : perTop ≤ 1 := by unfold perTop; rw [perTop_eq, EReal.toReal_coe]; norm_num

/-- The small number under the root. -/
def eps : ℝ := (Ideal.ofBits .f32 0x358637BD#32).toReal
theorem eps_eq : Ideal.ofBits .f32 0x358637BD#32 = ((8796093 * 2 ^ (-43 : ℤ) : ℝ) : EReal) := by
  simp [Ideal.ofBits, Ideal.ieee, -EReal.coe_mul]
theorem eps_coe : Ideal.ofBits .f32 0x358637BD#32 = ((eps : ℝ) : EReal) := by
  unfold eps; rw [eps_eq, EReal.toReal_coe]
theorem eps_pos : 0 < eps := by unfold eps; rw [eps_eq, EReal.toReal_coe]; positivity

theorem word_256th : Ideal.ofBits .f32 998244352#32 = ((1 / 256 : ℝ) : EReal) := by
  simp [Ideal.ofBits, Ideal.ieee, -EReal.coe_mul]; norm_num
theorem word_256 : Ideal.ofBits .f32 0x43800000#32 = ((256 : ℝ) : EReal) := by
  simp [Ideal.ofBits, Ideal.ieee, -EReal.coe_mul]; norm_num
theorem word_tiny : Ideal.ofBits .f32 0x00800000#32 = ((2 ^ (-126 : ℤ) : ℝ) : EReal) := by
  rw [show (0x00800000#32 : BitVec 32) = BitVec.ofNat 32 (1 * 8388608) from by decide, word_pow 1 (by decide) (by decide)]
  norm_num

/-- A row normalised by its root mean square, weighted and gated. -/
def gated (o z w : Fin 256 → ℝ) (n : Fin 256) : ℝ :=
  o n * (Real.sqrt ((∑ i, o i * o i) / 256 + eps))⁻¹ * w n * (z n * (1 + Real.exp (-z n))⁻¹)

theorem gated_pos (o : Fin 256 → ℝ) : 0 < (∑ i, o i * o i) / 256 + eps := by
  have hs : 0 ≤ ∑ i, o i * o i := Finset.sum_nonneg fun i _ => mul_self_nonneg _
  have := eps_pos
  positivity

theorem gated_coe (o z w : Fin 256 → ℝ) (n : Fin 256) (m : EReal) (hm : m = (((∑ i, o i * o i) / 256 + eps : ℝ) : EReal)) :
    ((o n : ℝ) : EReal) * Ideal.rsqrt m * ((w n : ℝ) : EReal) * (((z n : ℝ) : EReal) * Ideal.logistic ((z n : ℝ) : EReal))
      = ((gated o z w n : ℝ) : EReal) := by
  have h := gated_pos o
  rw [hm, Ideal.rsqrt_coe, if_neg (not_lt.mpr h.le), if_neg h.ne', Ideal.logistic_coe]
  simp only [← EReal.coe_mul]
  rfl

/-- The largest of all heads' and lanes' outputs in absolute value. -/
def largest (y : Fin 24 → Fin 256 → ℝ) : ℝ := Finset.univ.sup' ⟨((0 : Fin 24), (0 : Fin 256)), Finset.mem_univ _⟩ fun p => |y p.1 p.2|

theorem le_largest (y : Fin 24 → Fin 256 → ℝ) (h : Fin 24) (n : Fin 256) : |y h n| ≤ largest y :=
  Finset.le_sup' (fun p : Fin 24 × Fin 256 => |y p.1 p.2|) (Finset.mem_univ (h, n))

theorem largest_mem (y : Fin 24 → Fin 256 → ℝ) : ∃ h n, largest y = |y h n| := by
  obtain ⟨p, -, e⟩ := Finset.exists_mem_eq_sup' (⟨((0 : Fin 24), (0 : Fin 256)), Finset.mem_univ _⟩ : (Finset.univ : Finset (Fin 24 × Fin 256)).Nonempty)
    (fun p => |y p.1 p.2|)
  exact ⟨p.1, p.2, e⟩

/-- A number that is at most `c` exactly where all outputs are is the largest. -/
theorem eq_largest (y : Fin 24 → Fin 256 → ℝ) (z : EReal) (hz : ∀ c : EReal, z ≤ c ↔ ∀ h n, ((|y h n| : ℝ) : EReal) ≤ c) : z = ((largest y : ℝ) : EReal) := by
  apply le_antisymm
  · exact (hz _).mpr fun h n => EReal.coe_le_coe_iff.mpr (le_largest y h n)
  · obtain ⟨h, n, e⟩ := largest_mem y
    rw [e]
    exact (hz z).mp le_rfl h n

theorem largest_le (y : Fin 24 → Fin 256 → ℝ) {B : ℝ} (h : ∀ g n, |y g n| ≤ B) : largest y ≤ B := by
  obtain ⟨g, n, e⟩ := largest_mem y
  rw [e]; exact h g n

theorem absf_coe (x : ℝ) : FloatOps.absf (F := Ideal) (φ := .f32) ((x : ℝ) : EReal) = ((|x| : ℝ) : EReal) := by
  show max ((x : ℝ) : EReal) (-((x : ℝ) : EReal)) = _
  rw [← EReal.coe_neg]
  exact (EReal.coe_strictMono.monotone.map_max (a := x) (b := -x)).symm

theorem gated_le (o z w : Fin 256 → ℝ) (n : Fin 256) {B : ℝ} (hw : |w n| ≤ B) (hz : |z n| ≤ B) : |gated o z w n| ≤ 16 * B * B := by
  have hB : 0 ≤ B := (abs_nonneg _).trans hw
  have hpos := gated_pos o
  have hr := Real.sqrt_pos.mpr hpos
  have h1 : |o n * (Real.sqrt ((∑ i, o i * o i) / 256 + eps))⁻¹| ≤ 16 := by
    rw [abs_mul, abs_inv, abs_of_pos hr, ← div_eq_mul_inv, div_le_iff₀ hr]
    have h16 : (16 : ℝ) * Real.sqrt ((∑ i, o i * o i) / 256 + eps) = Real.sqrt (256 * ((∑ i, o i * o i) / 256 + eps)) := by
      rw [Real.sqrt_mul (by norm_num), show (256 : ℝ) = 16 * 16 by norm_num, Real.sqrt_mul_self (by norm_num)]
    rw [h16]
    refine Real.abs_le_sqrt ?_
    have h2 : o n * o n ≤ ∑ i, o i * o i := Finset.single_le_sum (f := fun i => o i * o i) (fun i _ => mul_self_nonneg _) (Finset.mem_univ n)
    have := eps_pos
    nlinarith
  have h3 : |z n * (1 + Real.exp (-z n))⁻¹| ≤ B := by
    have hp := Real.exp_pos (-z n)
    have hp1 : 0 < 1 + Real.exp (-z n) := by linarith
    rw [abs_mul, abs_inv, abs_of_pos hp1]
    refine (mul_le_of_le_one_right (abs_nonneg _) ?_).trans hz
    exact inv_le_one_of_one_le₀ (by linarith)
  unfold gated
  rw [abs_mul, abs_mul _ (w n)]
  exact mul_le_mul (mul_le_mul h1 hw (abs_nonneg _) (by norm_num)) h3 (abs_nonneg _) (by positivity)

end Cert.Proof

end
-- ==== Proof.Delta.lean ====
module

public import proofs.«01_k».proof.Proof.Sums
public import proofs.«01_k».proof.Proof.Quantise

@[expose] public section

/-! The recurrence in finite numbers: what both programs compute. -/

noncomputable section

namespace Cert.Proof

/-- One head's state after a chunk: the decayed state plus the faded keys times the new values; a new value is the
    inverse times the values less what the grown keys read of the state. -/
def delta (T : Fin 64 → Fin 64 → ℝ) (grow fade : Fin 64 → ℝ) (k : Fin 64 → Fin 128 → ℝ) (V : Fin 64 → Fin 256 → ℝ) (D : ℝ)
    (S : Fin 128 → Fin 256 → ℝ) (i : Fin 128) (n : Fin 256) : ℝ :=
  D * S i n + ∑ r, k r i * (fade r * ∑ j, T r j * (V j n - grow j * ∑ l, k j l * S l n))

/-- The same with the inverse applied to the values and to the grown keys first. -/
theorem delta_eq (T : Fin 64 → Fin 64 → ℝ) (grow fade : Fin 64 → ℝ) (k : Fin 64 → Fin 128 → ℝ) (V : Fin 64 → Fin 256 → ℝ) (D : ℝ)
    (S : Fin 128 → Fin 256 → ℝ) (i : Fin 128) (n : Fin 256) :
    D * S i n + ∑ r, fade r * k r i * ((∑ j, T r j * V j n) - ∑ l, (∑ j, T r j * (grow j * k j l)) * S l n)
      = delta T grow fade k V D S i n := by
  unfold delta
  congr 1
  refine Finset.sum_congr rfl fun r _ => ?_
  have e : (∑ l, (∑ j, T r j * (grow j * k j l)) * S l n) = ∑ j, T r j * (grow j * ∑ l, k j l * S l n) := by
    simp only [Finset.sum_mul, Finset.mul_sum]
    rw [Finset.sum_comm]
    refine Finset.sum_congr rfl fun j _ => Finset.sum_congr rfl fun l _ => ?_
    ring
  rw [e, ← Finset.sum_sub_distrib]
  simp only [mul_sub]
  ring_nf

/-- The argument arrays as finite numbers. -/
structure Inputs where
  codes : Fin 20 → Fin 24 → Fin 128 → Fin 128 → ℝ
  values : Fin 2 → Fin 640 → Fin 24 → Fin 256 → ℝ
  pairs : Fin 64 → Fin 480 → Fin 128 → ℝ
  factors : Fin 20 → Fin 64 → Fin 128 → ℝ
  decay : Fin 480 → ℝ
  initial : Fin 2 → Fin 24 → Fin 128 → Fin 256 → ℝ
  gate : Fin 2 → Fin 640 → Fin 24 → Fin 256 → ℝ
  weight : Fin 256 → ℝ

/-- Chunk `n` of batch `b` among all chunks. -/
def chunkOf (b : Fin 2) (n : Fin 10) : Fin 20 := ⟨10 * b.val + n.val, by omega⟩

/-- Head `h` of chunk `n` of batch `b` among all heads of all chunks. -/
def headRow (b : Fin 2) (n : Fin 10) (h : Fin 24) : Fin 480 := ⟨24 * (10 * b.val + n.val) + h.val, by omega⟩

/-- Row `j` of chunk `n`. -/
def rowOf (n : Fin 10) (j : Fin 64) : Fin 640 := ⟨64 * n.val + j.val, by omega⟩

/-- The lane that holds head `h`'s growth factor, and the one that holds its fade factor. -/
def growLane (h : Fin 24) : Fin 128 := ⟨h.val, by omega⟩
def fadeLane (h : Fin 24) : Fin 128 := ⟨64 + h.val, by omega⟩

/-- The lane that holds the growth factor of head `h`'s queries. -/
def queryLane (h : Fin 24) : Fin 128 := ⟨32 + h.val, by omega⟩

/-- The first and the second half of 128 rows or lanes. -/
def low (j : Fin 64) : Fin 128 := ⟨j.val, by omega⟩
def high (j : Fin 64) : Fin 128 := ⟨64 + j.val, by omega⟩

/-- All heads' states after chunk `n` of batch `b`, from those before it. -/
def Inputs.step (X : Inputs) (b : Fin 2) (n : Fin 10) (S : Fin 24 → Fin 128 → Fin 256 → ℝ) (h : Fin 24) : Fin 128 → Fin 256 → ℝ :=
  delta (fun r j => X.pairs r (headRow b n h) (low j)) (fun r => X.factors (chunkOf b n) r (growLane h))
    (fun r => X.factors (chunkOf b n) r (fadeLane h)) (fun r i => X.codes (chunkOf b n) h (low r) i)
    (fun j v => X.values b (rowOf n j) h v) (X.decay (headRow b n h)) (S h)

/-- Batch `b`'s states before chunk `n`. -/
def Inputs.state (X : Inputs) (b : Fin 2) : ℕ → Fin 24 → Fin 128 → Fin 256 → ℝ
  | 0 => X.initial b
  | n + 1 => X.step b ⟨n % 10, Nat.mod_lt _ (by decide)⟩ (X.state b n)

/-- What one head reads of a chunk: its grown queries on the old state plus its second matrix on the new values. -/
def reading (T P : Fin 64 → Fin 64 → ℝ) (grow qgrow : Fin 64 → ℝ) (k q : Fin 64 → Fin 128 → ℝ) (V : Fin 64 → Fin 256 → ℝ)
    (S : Fin 128 → Fin 256 → ℝ) (r : Fin 64) (n : Fin 256) : ℝ :=
  qgrow r * ∑ l, q r l * S l n + ∑ i, P r i * ∑ j, T i j * (V j n - grow j * ∑ l, k j l * S l n)

/-- The same with the growth applied to the queries, and the inverse to the values and the grown keys first. -/
theorem reading_eq (T P : Fin 64 → Fin 64 → ℝ) (grow qgrow : Fin 64 → ℝ) (k q : Fin 64 → Fin 128 → ℝ) (V : Fin 64 → Fin 256 → ℝ)
    (S : Fin 128 → Fin 256 → ℝ) (r : Fin 64) (n : Fin 256) :
    (∑ l, qgrow r * q r l * S l n) + ∑ i, P r i * ((∑ j, T i j * V j n) - ∑ l, (∑ j, T i j * (grow j * k j l)) * S l n)
      = reading T P grow qgrow k q V S r n := by
  unfold reading
  have e1 : (∑ l, qgrow r * q r l * S l n) = qgrow r * ∑ l, q r l * S l n := by
    rw [Finset.mul_sum]
    exact Finset.sum_congr rfl fun l _ => mul_assoc _ _ _
  rw [e1]
  congr 1
  refine Finset.sum_congr rfl fun i _ => ?_
  have e : (∑ l, (∑ j, T i j * (grow j * k j l)) * S l n) = ∑ j, T i j * (grow j * ∑ l, k j l * S l n) := by
    simp only [Finset.sum_mul, Finset.mul_sum]
    rw [Finset.sum_comm]
    refine Finset.sum_congr rfl fun j _ => Finset.sum_congr rfl fun l _ => ?_
    ring
  rw [e, ← Finset.sum_sub_distrib]
  simp only [mul_sub]

/-- A head's outputs in step `r` of chunk `n` of batch `b`, from the states before the chunk. -/
def Inputs.output (X : Inputs) (b : Fin 2) (n : Fin 10) (S : Fin 24 → Fin 128 → Fin 256 → ℝ) (r : Fin 64) (h : Fin 24) : Fin 256 → ℝ :=
  gated (reading (fun r j => X.pairs r (headRow b n h) (low j)) (fun r j => X.pairs r (headRow b n h) (high j))
    (fun r => X.factors (chunkOf b n) r (growLane h)) (fun r => X.factors (chunkOf b n) r (queryLane h))
    (fun r i => X.codes (chunkOf b n) h (low r) i) (fun r i => X.codes (chunkOf b n) h (high r) i)
    (fun j v => X.values b (rowOf n j) h v) (S h) r) (X.gate b (rowOf n r) h) X.weight

/-- The scale of step `r` of chunk `n` of batch `b`. -/
def Inputs.scale (X : Inputs) (b : Fin 2) (n : Fin 10) (r : Fin 64) : ℝ := scaleOf (largest (X.output b n (X.state b n.val) r) * perTop)

/-- The gates and weights are small enough for every scale to be a normal number. -/
structure Inputs.Small (X : Inputs) : Prop where
  gate : ∀ b s h n, |X.gate b s h n| ≤ 2 ^ (60 : ℤ)
  weight : ∀ n, |X.weight n| ≤ 2 ^ (60 : ℤ)

theorem Inputs.Small.lt {X : Inputs} (H : X.Small) (b : Fin 2) (n : Fin 10) (S : Fin 24 → Fin 128 → Fin 256 → ℝ) (r : Fin 64) :
    largest (X.output b n S r) * perTop < 2 ^ (126 : ℤ) := by
  have h1 : largest (X.output b n S r) ≤ 16 * 2 ^ (60 : ℤ) * 2 ^ (60 : ℤ) := largest_le _ fun h v => gated_le _ _ _ v (H.weight v) (H.gate _ _ _ v)
  have h2 : largest (X.output b n S r) * perTop ≤ (16 * 2 ^ (60 : ℤ) * 2 ^ (60 : ℤ)) * 1 :=
    mul_le_mul h1 perTop_le perTop_pos.le (by positivity)
  refine lt_of_le_of_lt h2 ?_
  norm_num

end Cert.Proof

end
-- ==== Proof.Finite.lean ====
module

public import proofs.«01_k».proof.Defs
public import proofs.«01_k».proof.Proof.Delta
public import Idealize.ShloMosaic.Lib.ReduceAll

@[expose] public section

noncomputable section

namespace Cert.Proof

open Idealize.ShloMosaic Idealize.ShloMosaic.TcCoe Idealize.ShloMosaic.Tactic

/-! Arguments that pass the precondition are finite numbers. -/

/-- A number below plus infinity in absolute value is finite. -/
theorem finite_of_lt {x z : EReal} (hz : z = ⊤) (h : BitVec.ofBool (decide (max x (-x) < z)) = 1#1) : x = ((x.toReal : ℝ) : EReal) := by
  subst hz
  have h' : max x (-x) < ⊤ := by
    by_contra hc
    rw [decide_eq_false hc] at h
    exact absurd h (by decide)
  obtain ⟨h1, h2⟩ := max_lt_iff.mp h'
  refine (EReal.coe_toReal h1.ne ?_).symm
  rintro rfl
  exact absurd h2 (by simp)

theorem infinity_f32 : Ideal.ofBits .f32 0x7F800000#32 = ⊤ := by
  simp [Ideal.ofBits, Ideal.ieee]

theorem infinity_bf16 : Ideal.ofBits .bf16 0x7F80#16 = ⊤ := by
  simp [Ideal.ofBits, Ideal.ieee]

/-- A number below a finite bound in absolute value is finite, and its real part is within the bound. -/
theorem bounded_of_lt {x z : EReal} {B : ℝ} (hz : z = (B : EReal)) (h : BitVec.ofBool (decide (max x (-x) < z)) = 1#1) :
    x = ((x.toReal : ℝ) : EReal) ∧ |x.toReal| ≤ B := by
  subst hz
  have h' : max x (-x) < (B : EReal) := by
    by_contra hc
    rw [decide_eq_false hc] at h
    exact absurd h (by decide)
  have hx : x = ((x.toReal : ℝ) : EReal) := finite_of_lt rfl (by rw [decide_eq_true (h'.trans (EReal.coe_lt_top B))]; rfl)
  refine ⟨hx, ?_⟩
  rw [hx, ← EReal.coe_neg] at h'
  obtain ⟨h1, h2⟩ := max_lt_iff.mp h'
  exact abs_le.mpr ⟨by linarith [EReal.coe_lt_coe_iff.mp h2], (EReal.coe_lt_coe_iff.mp h1).le⟩

theorem bound_f32 : Ideal.ofBits .f32 0x5D800000#32 = (((2 : ℝ) ^ (60 : ℤ) : ℝ) : EReal) := by
  simp [Ideal.ofBits, Ideal.ieee]
  exact_mod_cast (by norm_num : (8388608 : ℝ) * 2 ^ 37 = 2 ^ 60)

theorem bound_bf16 : Ideal.ofBits .bf16 0x5D80#16 = (((2 : ℝ) ^ (60 : ℤ) : ℝ) : EReal) := by
  simp [Ideal.ofBits, Ideal.ieee]
  exact_mod_cast (by norm_num : (128 : ℝ) * 2 ^ 53 = 2 ^ 60)

section
variable [Cert.Pre_finite.Facts]
open Cert.Pre_finite

theorem finite_f32 {s : Shape} (hb : S_.BroadcastsInDim s (![] : Fin 0 → Fin s.rank)) (x : FVec Ideal s .f32) (i : s.Idx)
    (h : cmpf .olt (Host.absf x) (broadcastInDim s ![] hb (constant S_ .f32 0x7F800000#32 : FVec Ideal S_ .f32)) i = 1#1) : x i = ((x i).toReal : EReal) :=
  finite_of_lt infinity_f32 h

theorem finite_bf16 {s : Shape} (hb : S_.BroadcastsInDim s (![] : Fin 0 → Fin s.rank)) (x : FVec Ideal s .bf16) (i : s.Idx)
    (h : cmpf .olt (Host.absf x) (broadcastInDim s ![] hb (constant S_ .bf16 0x7F80#16 : FVec Ideal S_ .bf16)) i = 1#1) : x i = ((x i).toReal : EReal) :=
  finite_of_lt infinity_bf16 h

theorem bounded_f32 {s : Shape} (hb : S_.BroadcastsInDim s (![] : Fin 0 → Fin s.rank)) (x : FVec Ideal s .f32) (i : s.Idx)
    (h : cmpf .olt (Host.absf x) (broadcastInDim s ![] hb (constant S_ .f32 0x5D800000#32 : FVec Ideal S_ .f32)) i = 1#1) :
    x i = ((x i).toReal : EReal) ∧ |(x i).toReal| ≤ 2 ^ (60 : ℤ) :=
  bounded_of_lt bound_f32 h

theorem bounded_bf16 {s : Shape} (hb : S_.BroadcastsInDim s (![] : Fin 0 → Fin s.rank)) (x : FVec Ideal s .bf16) (i : s.Idx)
    (h : cmpf .olt (Host.absf x) (broadcastInDim s ![] hb (constant S_ .bf16 0x5D80#16 : FVec Ideal S_ .bf16)) i = 1#1) :
    x i = ((x i).toReal : EReal) ∧ |(x i).toReal| ≤ 2 ^ (60 : ℤ) :=
  bounded_of_lt bound_bf16 h

instance : Subsingleton S_.Idx := ⟨fun a b => funext fun i => i.elim0⟩

/-- The arrays the precondition is about have only finite entries, and the gates and weights only small ones. -/
theorem finite_of_pre (m : (ℓ : Loc Cert.KernelIdeal.nD Cert.KernelIdeal.τ Cert.KernelIdeal.sig) → Buf (Elt Ideal) ℓ) (hp : Pre_KernelIdeal_finite m)
    (c : Dev Cert.KernelIdeal.nD) :
    (∀ i : Cert.KernelIdeal.S20x24x128x128.Idx, m ((c.tc : Thread Cert.KernelIdeal.nD Cert.KernelIdeal.τ).loc Cert.KernelIdeal.main_arg0) i = ((m ((c.tc : Thread Cert.KernelIdeal.nD Cert.KernelIdeal.τ).loc Cert.KernelIdeal.main_arg0) i : EReal).toReal : EReal))
    ∧ (∀ i : Cert.KernelIdeal.S2x640x24x256.Idx, m ((c.tc : Thread Cert.KernelIdeal.nD Cert.KernelIdeal.τ).loc Cert.KernelIdeal.main_arg1) i = ((m ((c.tc : Thread Cert.KernelIdeal.nD Cert.KernelIdeal.τ).loc Cert.KernelIdeal.main_arg1) i : EReal).toReal : EReal))
    ∧ (∀ i : Cert.KernelIdeal.S64x480x128.Idx, m ((c.tc : Thread Cert.KernelIdeal.nD Cert.KernelIdeal.τ).loc Cert.KernelIdeal.main_arg3) i = ((m ((c.tc : Thread Cert.KernelIdeal.nD Cert.KernelIdeal.τ).loc Cert.KernelIdeal.main_arg3) i : EReal).toReal : EReal))
    ∧ (∀ i : Cert.KernelIdeal.S20x64x128.Idx, m ((c.tc : Thread Cert.KernelIdeal.nD Cert.KernelIdeal.τ).loc Cert.KernelIdeal.main_arg4) i = ((m ((c.tc : Thread Cert.KernelIdeal.nD Cert.KernelIdeal.τ).loc Cert.KernelIdeal.main_arg4) i : EReal).toReal : EReal))
    ∧ (∀ i : Cert.KernelIdeal.S480x1.Idx, m ((c.tc : Thread Cert.KernelIdeal.nD Cert.KernelIdeal.τ).loc Cert.KernelIdeal.main_arg5) i = ((m ((c.tc : Thread Cert.KernelIdeal.nD Cert.KernelIdeal.τ).loc Cert.KernelIdeal.main_arg5) i : EReal).toReal : EReal))
    ∧ (∀ i : Cert.KernelIdeal.S2x24x128x256.Idx, m ((c.tc : Thread Cert.KernelIdeal.nD Cert.KernelIdeal.τ).loc Cert.KernelIdeal.main_arg6) i = ((m ((c.tc : Thread Cert.KernelIdeal.nD Cert.KernelIdeal.τ).loc Cert.KernelIdeal.main_arg6) i : EReal).toReal : EReal))
    ∧ (∀ i : Cert.KernelIdeal.S2x640x24x256.Idx, m ((c.tc : Thread Cert.KernelIdeal.nD Cert.KernelIdeal.τ).loc Cert.KernelIdeal.main_arg2) i = ((m ((c.tc : Thread Cert.KernelIdeal.nD Cert.KernelIdeal.τ).loc Cert.KernelIdeal.main_arg2) i : EReal).toReal : EReal)
      ∧ |(m ((c.tc : Thread Cert.KernelIdeal.nD Cert.KernelIdeal.τ).loc Cert.KernelIdeal.main_arg2) i : EReal).toReal| ≤ 2 ^ (60 : ℤ))
    ∧ (∀ i : Cert.KernelIdeal.S256.Idx, m ((c.tc : Thread Cert.KernelIdeal.nD Cert.KernelIdeal.τ).loc Cert.KernelIdeal.main_arg7) i = ((m ((c.tc : Thread Cert.KernelIdeal.nD Cert.KernelIdeal.τ).loc Cert.KernelIdeal.main_arg7) i : EReal).toReal : EReal)
      ∧ |(m ((c.tc : Thread Cert.KernelIdeal.nD Cert.KernelIdeal.τ).loc Cert.KernelIdeal.main_arg7) i : EReal).toReal| ≤ 2 ^ (60 : ℤ)) := by
  have all := hp c
  dsimp only [fn, fn_part1] at all
  obtain ⟨h0, h1, h3, h4, h5, h6, h2, h7⟩ := all
  exact ⟨fun i => finite_f32 _ _ i (Host.reduce_andi_all _ _ _ _ _ (congrFun h0 (fun z => z.elim0)) i),
    fun i => finite_bf16 _ _ i (Host.reduce_andi_all _ _ _ _ _ (congrFun h1 (fun z => z.elim0)) i),
    fun i => finite_f32 _ _ i (Host.reduce_andi_all _ _ _ _ _ (congrFun h3 (fun z => z.elim0)) i),
    fun i => finite_f32 _ _ i (Host.reduce_andi_all _ _ _ _ _ (congrFun h4 (fun z => z.elim0)) i),
    fun i => finite_f32 _ _ i (Host.reduce_andi_all _ _ _ _ _ (congrFun h5 (fun z => z.elim0)) i),
    fun i => finite_f32 _ _ i (Host.reduce_andi_all _ _ _ _ _ (congrFun h6 (fun z => z.elim0)) i),
    fun i => bounded_bf16 _ _ i (Host.reduce_andi_all _ _ _ _ _ (congrFun h2 (fun z => z.elim0)) i),
    fun i => bounded_f32 _ _ i (Host.reduce_andi_all _ _ _ _ _ (congrFun h7 (fun z => z.elim0)) i)⟩

end

/-- The finite numbers of a memory's argument arrays. -/
def inputsOf (m : (ℓ : Loc Cert.KernelIdeal.nD Cert.KernelIdeal.τ Cert.KernelIdeal.sig) → Buf (Elt Ideal) ℓ) (c : Dev Cert.KernelIdeal.nD) : Inputs where
  codes t h i j := (m ((c.tc : Thread Cert.KernelIdeal.nD Cert.KernelIdeal.τ).loc Cert.KernelIdeal.main_arg0) (ix4 t h i j) : EReal).toReal
  values b s h n := (m ((c.tc : Thread Cert.KernelIdeal.nD Cert.KernelIdeal.τ).loc Cert.KernelIdeal.main_arg1) (ix4 b s h n) : EReal).toReal
  pairs i r j := (m ((c.tc : Thread Cert.KernelIdeal.nD Cert.KernelIdeal.τ).loc Cert.KernelIdeal.main_arg3) (ix3 i r j) : EReal).toReal
  factors t i l := (m ((c.tc : Thread Cert.KernelIdeal.nD Cert.KernelIdeal.τ).loc Cert.KernelIdeal.main_arg4) (ix3 t i l) : EReal).toReal
  decay r := (m ((c.tc : Thread Cert.KernelIdeal.nD Cert.KernelIdeal.τ).loc Cert.KernelIdeal.main_arg5) (ix2 r 0) : EReal).toReal
  initial b h i n := (m ((c.tc : Thread Cert.KernelIdeal.nD Cert.KernelIdeal.τ).loc Cert.KernelIdeal.main_arg6) (ix4 b h i n) : EReal).toReal
  gate b s h n := (m ((c.tc : Thread Cert.KernelIdeal.nD Cert.KernelIdeal.τ).loc Cert.KernelIdeal.main_arg2) (ix4 b s h n) : EReal).toReal
  weight n := (m ((c.tc : Thread Cert.KernelIdeal.nD Cert.KernelIdeal.τ).loc Cert.KernelIdeal.main_arg7) (ix1 n) : EReal).toReal

end Cert.Proof

end
-- ==== Proof.KernelIdeal.Head.lean ====
module

public import proofs.«01_k».proof.Proof.Gen.KernelIdeal.Skeleton
public import Idealize.ShloMosaic.Lib.Writes
public import Idealize.ShloMosaic.Lib.PointwiseCore

@[expose] public section

set_option maxRecDepth 16384

noncomputable section

namespace Cert.Proof.KernelIdeal

open Cert.KernelIdeal Cert.KernelIdeal.Gen
open Idealize.ShloMosaic

variable {F : FTy → Type} [FloatOps F]

/-- The lane block of a head's values: the words of eight heads' rows lie side by side, the block's rows are every
    second one of two. -/
def valueHalf (x3 : Vec F S1x64x48x128 .bf16) (h : Fin 24) (half : Fin 2) : Vec F S1x64x2x128 .bf16 :=
  fun i => x3 (ix4 (0 : Fin 1) (i 1 : Fin 64) (⟨16 * (h.val / 8) + 8 * half.val + 2 * (h.val % 8 / 2) + (i 2).val, by
    have hh := h.isLt; have hf := half.isLt; have h2 : (i 2).val < 2 := (i 2).isLt; omega⟩ : Fin 48) (i 3 : Fin 128))

/-- A head's codes: its keys over its queries. -/
def codeRow (x2 : Vec F S1x24x128x128 .fp8e4m3) (h : Fin 24) : Vec F S1x1x128x128 .fp8e4m3 :=
  fun i => x2 (ix4 (0 : Fin 1) h (i 2 : Fin 128) (i 3 : Fin 128))

/-- A head's state. -/
def stateRow (S : Vec F S24x128x256 .f32) (h : Fin 24) : Vec F S1x128x256 .f32 :=
  fun i => S (ix3 h (i 1 : Fin 128) (i 2 : Fin 256))

/-- A head's pair of matrices, side by side. -/
def pairRow (x5 : Vec F S64x24x128 .f32) (h : Fin 24) : Vec F S64x128 .f32 :=
  fun i => x5 (ix3 (i 0 : Fin 64) h (i 1 : Fin 128))

/-- A head's decay. -/
def decayRow (x7 : Vec F S24x128 .f32) (h : Fin 24) : Vec F S1x128 .f32 :=
  fun i => x7 (ix2 h (i 1 : Fin 128))

/-- A head's values as the body puts them together: the rows of one parity of the two lane blocks, side by side. -/
def valuesOf (p : Fin 2) (a b : Vec F S1x64x2x128 .bf16) : FVec F S64x256 .f32 :=
  concatenate S64x256 1 [
    ⟨S64x128, extf .f32 (shapeCast S64x128 (rowsOfParity p S1x64x1x128 a bitcasts_S1x64x2x128_w16_S1x64x1x128_w32) shapeCasts_S1x64x1x128_S64x128) bitsLt_bf16_f32⟩,
    ⟨S64x128, extf .f32 (shapeCast S64x128 (rowsOfParity p S1x64x1x128 b bitcasts_S1x64x2x128_w16_S1x64x1x128_w32) shapeCasts_S1x64x1x128_S64x128) bitsLt_bf16_f32⟩]
    concatenates_S64x128_S64x128_S64x256_d1

/-- The new values of a head: the inverse times what the old state does not already give. -/
def newValues (v6 : IVec S64x128 32) (v8 : FVec F S64x128 .f32) (w : BitVec 32) (v : FVec F S64x256 .f32)
    (kq : Vec F S1x1x128x128 .fp8e4m3) (s : Vec F S1x128x256 .f32) (t : Vec F S64x128 .f32) : FVec F S64x256 .f32 :=
  k0_pay18 k0_pay228 v6 v8 w v (k0_pay9 kq s) t (k0_pay10 t)

/-- A head's state after the chunk, from what the body loads for the head. -/
def newState (v6 : IVec S64x128 32) (v8 : FVec F S64x128 .f32) (w : BitVec 32) (v : FVec F S64x256 .f32)
    (kq : Vec F S1x1x128x128 .fp8e4m3) (s : Vec F S1x128x256 .f32) (t : Vec F S64x128 .f32) (dec : Vec F S1x128 .f32) :
    FVec F S1x128x256 .f32 :=
  k0_pay28 (k0_pay8 s) (k0_pay20 (k0_pay7 kq)) (k0_pay25 v6 v8 w (newValues v6 v8 w v kq s t))
    (k0_pay26 v6 v8 w (newValues v6 v8 w v kq s t)) (k0_pay27 v6 v8 w (newValues v6 v8 w v kq s t)) dec

/-- Head `h`'s state after the chunk, from the blocks of the chunk and the state before it. -/
def headState (x2 : Vec F S1x24x128x128 .fp8e4m3) (x3 : Vec F S1x64x48x128 .bf16) (x5 : Vec F S64x24x128 .f32)
    (v6 : IVec S64x128 32) (v8 : FVec F S64x128 .f32) (x7 : Vec F S24x128 .f32) (S : Vec F S24x128x256 .f32) (h : Fin 24) :
    FVec F S1x128x256 .f32 :=
  newState v6 v8 (BitVec.ofNat 32 h.val) (valuesOf ⟨h.val % 2, by omega⟩ (valueHalf x3 h 0) (valueHalf x3 h 1))
    (codeRow x2 h) (stateRow S h) (pairRow x5 h) (decayRow x7 h)

/-- The whole state after the chunk. -/
def chunkState (x2 : Vec F S1x24x128x128 .fp8e4m3) (x3 : Vec F S1x64x48x128 .bf16) (x5 : Vec F S64x24x128 .f32)
    (v6 : IVec S64x128 32) (v8 : FVec F S64x128 .f32) (x7 : Vec F S24x128 .f32) (S : Vec F S24x128x256 .f32) :
    Vec F S24x128x256 .f32 :=
  fun i => headState x2 x3 x5 v6 v8 x7 S (i 0 : Fin 24) (ix3 (0 : Fin 1) (i 1 : Fin 128) (i 2 : Fin 256))

end Cert.Proof.KernelIdeal

end
-- ==== Proof.KernelIdeal.Math.lean ====
module

public import proofs.«01_k».proof.Proof.KernelIdeal.Head
public import proofs.«01_k».proof.Proof.Sums

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic

/-! What a head's payloads compute when everything they read is finite. -/

/-- The keys and queries times the state. -/
theorem product_at (kq : Vec Ideal S1x1x128x128 .fp8e4m3) (s : Vec Ideal S1x128x256 .f32) (k : Fin 128 → Fin 128 → ℝ) (σ : Fin 128 → Fin 256 → ℝ)
    (hk : ∀ r j, kq (ix4 0 0 r j) = ((k r j : ℝ) : EReal)) (hs : ∀ j n, s (ix3 0 j n) = ((σ j n : ℝ) : EReal)) (r : Fin 128) (n : Fin 256) :
    k0_pay9 kq s (ix2 r n) = ((∑ j, k r j * σ j n : ℝ) : EReal) := by
  unfold k0_pay9 k0_pay8 k0_pay7
  pointwise
  simp only [hk, hs, ← EReal.coe_sub, ← EReal.coe_mul, sub_self, mul_zero]
  rw [← coe_sum]
  refine sum_head (a := 128) (by omega) _ _ (fun j => ?_) (fun x hx => ?_)
  · have := j.isLt
    simp [this]
  · have h : ¬ x.val < 128 := by omega
    simp [h]

/-- The column a comparison of lane numbers chooses. -/
theorem column_at (v6 : IVec S64x128 32) (v8 : FVec Ideal S64x128 .f32) (c : Fin 128) (j : Fin 64)
    (h6 : ∀ (j : Fin 64) (l : Fin 128), v6 (ix2 j l) = BitVec.ofNat 32 l.val) :
    (∑ l : Fin 128, Scalar.select (IntOp.cmpi .eq (v6 (ix2 j l)) (BitVec.ofNat 32 c.val)) (v8 (ix2 j l)) (0 : EReal)) = v8 (ix2 j c) := by
  have hc := c.isLt
  rw [sum_pick _ c (fun x hx => ?_)]
  · rw [h6, select_eq _ _ (by omega) (by omega), if_pos rfl]
  · have := x.isLt
    rw [h6, select_eq _ _ (by omega) (by omega), if_neg (fun e => hx (Fin.ext e))]

set_option maxHeartbeats 2000000 in
/-- A head's new values: the inverse times the values less what the old state gives of them. -/
theorem newValues_at (v6 : IVec S64x128 32) (v8 : FVec Ideal S64x128 .f32) (h : Fin 128) (v : FVec Ideal S64x256 .f32)
    (P : FVec Ideal S128x256 .f32) (t : Vec Ideal S64x128 .f32)
    (V : Fin 64 → Fin 256 → ℝ) (C : Fin 64 → Fin 128 → ℝ) (Q : Fin 128 → Fin 256 → ℝ) (T : Fin 64 → Fin 128 → ℝ)
    (h6 : ∀ (j : Fin 64) (l : Fin 128), v6 (ix2 j l) = BitVec.ofNat 32 l.val)
    (h8 : ∀ j l, v8 (ix2 j l) = ((C j l : ℝ) : EReal)) (hv : ∀ j n, v (ix2 j n) = ((V j n : ℝ) : EReal))
    (hP : ∀ r n, P (ix2 r n) = ((Q r n : ℝ) : EReal)) (ht : ∀ r x, t (ix2 r x) = ((T r x : ℝ) : EReal)) (r : Fin 64) (n : Fin 256) :
    k0_pay18 k0_pay228 v6 v8 (BitVec.ofNat 32 h.val) v P t (k0_pay10 t) (ix2 r n)
      = ((∑ j : Fin 64, T r (Fin.castLE (by decide) j) * (V j n - C j h * Q (Fin.castLE (by decide) j) n) : ℝ) : EReal) := by
  have hs : ∀ (x : ℕ) (hx : x < 128) (a b : ℝ), Scalar.select (IntOp.cmpi .slt (BitVec.ofNat 32 x) 64#32) a b = if x < 64 then a else b :=
    fun x hx a b => select_slt a b (by omega) (by decide)
  have hcol : ∀ j, (∑ l : Fin 128, Scalar.select (IntOp.cmpi .eq (v6 (ix2 j l)) (BitVec.ofNat 32 h.val)) ((C j l : ℝ) : EReal) (0 : EReal)) = ((C j h : ℝ) : EReal) := by
    intro j
    have e := column_at v6 v8 h j h6
    simp only [h8] at e
    exact e
  unfold k0_pay18 k0_pay228 k0_pay10
  pointwise
  simp only [h8, hv, hP, ht, hcol, select_coe, ← EReal.coe_sub, ← EReal.coe_mul, sub_self, select_same]
  rw [← coe_sum]
  refine sum_head (a := 64) (by omega) _ _ (fun j => ?_) (fun x hx => ?_)
  · have hj := j.isLt
    have h1 : j.val < 128 := by omega
    have h2 := hs j.val h1
    simp only [Fin.val_castLE, h1, hj, dif_pos, if_pos, h2]
    exact (EReal.coe_mul _ _).symm
  · have hxx := x.isLt
    have h : ¬ x.val < 64 := by omega
    rcases (by omega : x.val < 128 ∨ (128 ≤ x.val ∧ x.val < 192) ∨ (192 ≤ x.val ∧ x.val < 256) ∨ 256 ≤ x.val) with h1 | h1 | h1 | h1
    · have h2 : x.val - 64 < 64 := by omega
      simp [h, h2]
    · have h2 : ¬ x.val - 64 < 64 := by omega
      have h3 : x.val - 64 - 64 < 64 := by omega
      simp [h, h2, h3]
    · have h2 : ¬ x.val < 128 := by omega
      have h3 : x.val - 128 < 128 := by omega
      have h4 : ¬ x.val - 128 < 64 := by omega
      simp [h2, h3, h4, hs _ h3]
    · have h2 : ¬ x.val < 128 := by omega
      have h3 : ¬ x.val - 128 < 128 := by omega
      simp [h2, h3]

end Cert.Proof.KernelIdeal

end
-- ==== Proof.KernelIdeal.Heads.lean ====
module

public import proofs.«01_k».proof.Proof.KernelIdeal.Math

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic

set_option maxHeartbeats 1000000 in
/-- A head's new state: the old one decayed, plus the faded keys times the new values. -/
theorem newState_at (v6 : IVec S64x128 32) (v8 : FVec Ideal S64x128 .f32) (h h' : Fin 128) (hh : h'.val = 64 + h.val)
    (kq : Vec Ideal S1x1x128x128 .fp8e4m3) (s : Vec Ideal S1x128x256 .f32) (N : FVec Ideal S64x256 .f32) (dec : Vec Ideal S1x128 .f32)
    (k : Fin 128 → Fin 128 → ℝ) (σ : Fin 128 → Fin 256 → ℝ) (C : Fin 64 → Fin 128 → ℝ) (W : Fin 64 → Fin 256 → ℝ) (D : ℝ)
    (h6 : ∀ (j : Fin 64) (l : Fin 128), v6 (ix2 j l) = BitVec.ofNat 32 l.val)
    (h8 : ∀ j l, v8 (ix2 j l) = ((C j l : ℝ) : EReal))
    (hk : ∀ r j, kq (ix4 0 0 r j) = ((k r j : ℝ) : EReal)) (hs : ∀ j n, s (ix3 0 j n) = ((σ j n : ℝ) : EReal))
    (hN : ∀ r n, N (ix2 r n) = ((W r n : ℝ) : EReal)) (hd : ∀ l, dec (ix2 0 l) = (D : EReal)) (i : Fin 128) (n : Fin 256) :
    k0_pay28 (k0_pay8 s) (k0_pay20 (k0_pay7 kq)) (k0_pay25 v6 v8 (BitVec.ofNat 32 h.val) N)
      (k0_pay26 v6 v8 (BitVec.ofNat 32 h.val) N) (k0_pay27 v6 v8 (BitVec.ofNat 32 h.val) N) dec (ix3 0 i n)
      = ((D * σ i n + ∑ r : Fin 64, k (Fin.castLE (by decide) r) i * (C r h' * W r n) : ℝ) : EReal) := by
  have hw : Scalar.addi 64#32 (BitVec.ofNat 32 h.val) = BitVec.ofNat 32 h'.val := by
    rw [hh, BitVec.ofNat_add]; rfl
  have hcol : ∀ j, (∑ l : Fin 128, Scalar.select (IntOp.cmpi .eq (v6 (ix2 j l)) (BitVec.ofNat 32 h'.val)) ((C j l : ℝ) : EReal) (0 : EReal)) = ((C j h' : ℝ) : EReal) := by
    intro j
    have e := column_at v6 v8 h' j h6
    simp only [h8] at e
    exact e
  unfold k0_pay28 k0_pay20 k0_pay25 k0_pay26 k0_pay27 k0_pay24 k0_pay23 k0_pay22 k0_pay21 k0_pay8 k0_pay7
  pointwise
  simp only [hw, h8, hk, hs, hN, hd, hcol, ← EReal.coe_sub, ← EReal.coe_mul, sub_self, dite_eq_ite, ite_self]
  rw [EReal.coe_add, ← coe_sum]
  refine congrArg (fun z : EReal => ((D * σ i n : ℝ) : EReal) + z) (sum_head (a := 64) (by omega) _ _ (fun j => ?_) (fun x hx => ?_))
  · have hj := j.isLt
    have h1 : j.val < 128 := by omega
    simp only [Fin.val_castLE, h1, hj, dif_pos, if_pos]
    exact (EReal.coe_mul _ _).symm
  · have hxx := x.isLt
    have h : ¬ x.val < 64 := by omega
    simp [h]

/-- One entry of a head's values: the parity picks the row of each pair, the half the lane block. -/
theorem valuesOf_at (x3 : Vec Ideal S1x64x48x128 .bf16) (h : Fin 24) (j : Fin 64) (n : Fin 256) (u : Fin 48) (l : Fin 128)
    (hu : u.val = 16 * (h.val / 8) + 8 * (n.val / 128) + h.val % 8) (hl : l.val = n.val % 128) :
    valuesOf ⟨h.val % 2, by omega⟩ (valueHalf x3 h 0) (valueHalf x3 h 1) (ix2 j n) = x3 (ix4 0 j u l) := by
  have hn := n.isLt
  unfold valuesOf
  pointwise
  have hz : ((0 : Fin 2) : ℕ) = 0 := rfl
  have ho : ((1 : Fin 2) : ℕ) = 1 := rfl
  by_cases hlt : n.val < 128
  · simp only [hlt, dif_pos]
    refine congrArg₂ (fun a b => x3 (ix4 0 j a b)) (Fin.ext ?_) (Fin.ext ?_)
    · show 16 * (h.val / 8) + 8 * ((0 : Fin 2) : ℕ) + 2 * (h.val % 8 / 2) + h.val % 2 = u.val
      omega
    · show n.val = l.val
      omega
  · simp only [hlt, dif_neg, not_false_iff]
    refine congrArg₂ (fun a b => x3 (ix4 0 j a b)) (Fin.ext ?_) (Fin.ext ?_)
    · show 16 * (h.val / 8) + 8 * ((1 : Fin 2) : ℕ) + 2 * (h.val % 8 / 2) + h.val % 2 = u.val
      omega
    · show n.val - 128 = l.val
      omega

end Cert.Proof.KernelIdeal

end
-- ==== Proof.KernelIdeal.Loads.lean ====
module

public import proofs.«01_k».proof.Proof.KernelIdeal.Head
public import Idealize.ShloMosaic.Lib.Pointwise.Reshape

@[expose] public section

set_option maxRecDepth 16384

noncomputable section

namespace Cert.Proof.KernelIdeal

open Cert.KernelIdeal Cert.KernelIdeal.Gen
open Idealize.ShloMosaic

variable {F : FTy → Type} [FloatOps F]

/-- A trip is one of three. -/
theorem trip_lt (k : Fin k0_t1_loop.trips) : k.val < 3 := Nat.lt_of_lt_of_le k.isLt k0_t1_abs.2.1

/-- The head trip `k` updates in its `r`-th place. -/
def headOf (k : Fin k0_t1_loop.trips) (r : Fin 8) : Fin 24 := ⟨8 * k.val + r.val, by have := trip_lt k; have := r.isLt; omega⟩

/-- The word the body computes for the head. -/
theorem word_eq : ∀ (k : Fin k0_t1_loop.trips) (r : Fin 8),
    Scalar.addi (Scalar.muli 8#32 (Scf.iv 0#32 1#32 k)) (BitVec.ofNat 32 r.val) = BitVec.ofNat 32 (headOf k r).val := by decide +kernel

theorem off1_eq : ∀ (k : Fin k0_t1_loop.trips) (half : Fin 2) (p : Fin 4),
    k0_off1 k (BitVec.ofNat 32 (4 * half.val)) (BitVec.ofNat 32 p.val) = ![0, 0, 16 * k.val + 8 * half.val + 2 * p.val, 0] := by decide +kernel

theorem off2_eq : ∀ (k : Fin k0_t1_loop.trips) (r : Fin 8), k0_off2 k (BitVec.ofNat 32 r.val) = ![0, (headOf k r).val, 0, 0] := by decide +kernel

theorem off3_eq : ∀ (k : Fin k0_t1_loop.trips) (r : Fin 8), k0_off3 k (BitVec.ofNat 32 r.val) = ![(headOf k r).val, 0, 0] := by decide +kernel

theorem off4_eq : ∀ k : Fin k0_t1_loop.trips, k0_off4 k = ![8 * k.val, 0] := by decide +kernel

theorem off5_eq : ∀ (k : Fin k0_t1_loop.trips) (r : Fin 8), k0_off5 k (BitVec.ofNat 32 r.val) = ![(headOf k r).val, 0] := by decide +kernel

theorem code_load (a : Memref sig .tc .vmem S1x24x128x128 .fp8e4m3) (X : BufTy.Contents (Elt F) a.view.ty) (k : Fin k0_t1_loop.trips) (r : Fin 8) :
    a.view.readAt (Elt F) (Rect.unit (s := S1x24x128x128) (k0_off2 k (BitVec.ofNat 32 r.val)) S1x1x128x128.size (k0_off2_inb k r)).toLoadRect X
      = codeRow (a.view.read (Elt F) X) (headOf k r) := by
  funext i
  refine congrArg (a.view.read (Elt F) X) (funext fun b => Fin.ext ?_)
  have h0 : (i 0).val = 0 := by have : (i 0).val < 1 := (i 0).isLt; omega
  have h1 : (i 1).val = 0 := by have : (i 1).val < 1 := (i 1).isLt; omega
  match b with
  | ⟨0, _⟩ => exact (congrArg (· + 1 * (i 0).val) (congrFun (off2_eq k r) 0)).trans (by simp [headOf, h0])
  | ⟨1, _⟩ => exact (congrArg (· + 1 * (i 1).val) (congrFun (off2_eq k r) 1)).trans (by simp [headOf, h1])
  | ⟨2, _⟩ => exact (congrArg (· + 1 * (i 2).val) (congrFun (off2_eq k r) 2)).trans (by simp)
  | ⟨3, _⟩ => exact (congrArg (· + 1 * (i 3).val) (congrFun (off2_eq k r) 3)).trans (by simp)

theorem value_load (a : Memref sig .tc .vmem S1x64x48x128 .bf16) (X : BufTy.Contents (Elt F) a.view.ty) (k : Fin k0_t1_loop.trips) (r : Fin 8)
    (half : Fin 2) (p : Fin 4) (hp : p.val = r.val / 2) :
    a.view.readAt (Elt F) (Rect.unit (s := S1x64x48x128) (k0_off1 k (BitVec.ofNat 32 (4 * half.val)) (BitVec.ofNat 32 p.val)) S1x64x2x128.size (k0_off1_inb k half p)).toLoadRect X
      = valueHalf (a.view.read (Elt F) X) (headOf k r) half := by
  funext i
  refine congrArg (a.view.read (Elt F) X) (funext fun b => Fin.ext ?_)
  have h0 : (i 0).val = 0 := by have : (i 0).val < 1 := (i 0).isLt; omega
  have hr := r.isLt
  match b with
  | ⟨0, _⟩ => exact (congrArg (· + 1 * (i 0).val) (congrFun (off1_eq k half p) 0)).trans (by simp [headOf, h0])
  | ⟨1, _⟩ => exact (congrArg (· + 1 * (i 1).val) (congrFun (off1_eq k half p) 1)).trans (by simp)
  | ⟨2, _⟩ =>
    refine (congrArg (· + 1 * (i 2).val) (congrFun (off1_eq k half p) 2)).trans ?_
    show 16 * k.val + 8 * half.val + 2 * p.val + 1 * (i 2).val = 16 * ((8 * k.val + r.val) / 8) + 8 * half.val + 2 * ((8 * k.val + r.val) % 8 / 2) + (i 2).val
    omega
  | ⟨3, _⟩ => exact (congrArg (· + 1 * (i 3).val) (congrFun (off1_eq k half p) 3)).trans (by simp)

theorem state_load (a : Memref sig .tc .vmem S24x128x256 .f32) (X : BufTy.Contents (Elt F) a.view.ty) (k : Fin k0_t1_loop.trips) (r : Fin 8) :
    a.view.readAt (Elt F) (Rect.unit (s := S24x128x256) (k0_off3 k (BitVec.ofNat 32 r.val)) S1x128x256.size (k0_off3_inb k r)).toLoadRect X
      = stateRow (a.view.read (Elt F) X) (headOf k r) := by
  funext i
  refine congrArg (a.view.read (Elt F) X) (funext fun b => Fin.ext ?_)
  have h0 : (i 0).val = 0 := by have : (i 0).val < 1 := (i 0).isLt; omega
  match b with
  | ⟨0, _⟩ => exact (congrArg (· + 1 * (i 0).val) (congrFun (off3_eq k r) 0)).trans (by simp [headOf, h0])
  | ⟨1, _⟩ => exact (congrArg (· + 1 * (i 1).val) (congrFun (off3_eq k r) 1)).trans (by simp)
  | ⟨2, _⟩ => exact (congrArg (· + 1 * (i 2).val) (congrFun (off3_eq k r) 2)).trans (by simp)

theorem decay_load (a : Memref sig .tc .vmem S24x128 .f32) (X : BufTy.Contents (Elt F) a.view.ty) (k : Fin k0_t1_loop.trips) (r : Fin 8) :
    a.view.readAt (Elt F) (Rect.unit (s := S24x128) (k0_off5 k (BitVec.ofNat 32 r.val)) S1x128.size (k0_off5_inb k r)).toLoadRect X
      = decayRow (a.view.read (Elt F) X) (headOf k r) := by
  funext i
  refine congrArg (a.view.read (Elt F) X) (funext fun b => Fin.ext ?_)
  have h0 : (i 0).val = 0 := by have : (i 0).val < 1 := (i 0).isLt; omega
  match b with
  | ⟨0, _⟩ => exact (congrArg (· + 1 * (i 0).val) (congrFun (off5_eq k r) 0)).trans (by simp [headOf, h0])
  | ⟨1, _⟩ => exact (congrArg (· + 1 * (i 1).val) (congrFun (off5_eq k r) 1)).trans (by simp)

/-- The rows of a head in the array of pairs, met as every 24th row of its flat view. -/
theorem pair_load (a : Memref sig .tc .vmem S64x24x128 .f32) (ha : a.IsWhole) (X : BufTy.Contents (Elt F) a.view.ty) (k : Fin k0_t1_loop.trips) (r : Fin 8)
    (off : Fin 2 → Nat) (ho : off = ![r.val, 0])
    (inb : ∀ b, S64x128.size b = 0 ∨ off b + (![24, 1] : Fin 2 → Nat) b * (S64x128.size b - 1) < S1520x128.size b) :
    ((a.reshape S1536x128 reshapes_S64x24x128_S1536x128.1 reshapes_S64x24x128_S1536x128.2 ha.contiguous).slice
      (Rect.unit (s := S1536x128) (k0_off4 k) S1520x128.size (k0_off4_inb k)) (fun _ => rfl)).view.readAt (Elt F) (⟨off, S64x128.size, ![24, 1], inb⟩ : LoadRect S1520x128) X
      = pairRow (a.view.read (Elt F) X) (headOf k r) := by
  subst ho
  funext i
  refine congrArg (a.view.read (Elt F) X) (Shape.reshapeEquiv_eq_of_rowMajor _ ?_)
  have h0 : (i 0).val < 64 := (i 0).isLt
  have e0 : (k0_off4 k) 0 = 8 * k.val := congrFun (off4_eq k) 0
  have e1 : (k0_off4 k) 1 = 0 := congrFun (off4_eq k) 1
  refine (rowMajor_val3 _ (128 * 24) 128 rfl rfl).trans (Eq.trans ?_ (rowMajor_val2 _ 128 rfl).symm)
  show (i 0).val * (128 * 24) + (8 * k.val + r.val) * 128 + (i 1).val = ((k0_off4 k) 0 + 1 * (r.val + 24 * (i 0).val)) * 128 + ((k0_off4 k) 1 + 1 * (0 + 1 * (i 1).val))
  rw [e0, e1]
  omega

end Cert.Proof.KernelIdeal

end
-- ==== Proof.KernelIdeal.Trip.lean ====
module

public import proofs.«01_k».proof.Proof.KernelIdeal.Loads

@[expose] public section

set_option maxRecDepth 16384

noncomputable section

namespace Cert.Proof.KernelIdeal

open Cert.KernelIdeal Cert.KernelIdeal.Gen
open Idealize.ShloMosaic

variable {F : FTy → Type} [FloatOps F]

/-- The state before trip `k` of the chunk that finds it at `S`: the heads of the trips before are at their new rows. -/
def StateAt (x2 : Vec F S1x24x128x128 .fp8e4m3) (x3 : Vec F S1x64x48x128 .bf16) (x5 : Vec F S64x24x128 .f32)
    (v6 : IVec S64x128 32) (v8 : FVec F S64x128 .f32) (x7 : Vec F S24x128 .f32) (S : Vec F S24x128x256 .f32) (k : ℕ)
    (now : Vec F S24x128x256 .f32) : Prop :=
  ∀ x, now x = if (x 0).val < 8 * k then chunkState x2 x3 x5 v6 v8 x7 S x else S x

theorem pair_inb : ∀ (r : Fin 8) (b : Fin 2), S64x128.size b = 0 ∨ (![r.val, 0] : Fin 2 → Nat) b + (![24, 1] : Fin 2 → Nat) b * (S64x128.size b - 1) < S1520x128.size b := by
  decide

theorem all_heads : ∀ r : Fin 8, r ∈ ([7, 6, 5, 4, 3, 2, 1, 0] : List (Fin 8)) := by decide

section
variable (arg2 : Memref sig .tc .vmem S1x24x128x128 .fp8e4m3) (arg3 : Memref sig .tc .vmem S1x64x48x128 .bf16)
  (arg5 : Memref sig .tc .vmem S64x24x128 .f32) (harg5 : arg5.IsWhole) (arg7 : Memref sig .tc .vmem S24x128 .f32)
  (arg13 : Memref sig .tc .vmem S24x128x256 .f32)
  (X2 : BufTy.Contents (Elt F) arg2.view.ty) (X3 : BufTy.Contents (Elt F) arg3.view.ty) (X5 : BufTy.Contents (Elt F) arg5.view.ty)
  (X7 : BufTy.Contents (Elt F) arg7.view.ty) (X13 : BufTy.Contents (Elt F) arg13.view.ty)
  (v6 : IVec S64x128 32) (v8 : FVec F S64x128 .f32) (k : Fin k0_t1_loop.trips)

/-- The rows trip `k` stores for its `r`-th head. -/
abbrev piece (r : Fin 8) : View.Piece (Elt F) S24x128x256 .f32 :=
  ⟨Rect.unit (s := S24x128x256) (k0_off3 k (BitVec.ofNat 32 r.val)) S1x128x256.size (k0_off3_inb k r),
    newState v6 v8 (Scalar.addi (Scalar.muli 8#32 (Scf.iv 0#32 1#32 k)) (BitVec.ofNat 32 r.val))
      (valuesOf ⟨r.val % 2, by omega⟩
        (arg3.view.readAt (Elt F) (Rect.unit (s := S1x64x48x128) (k0_off1 k (BitVec.ofNat 32 (4 * (0 : Fin 2).val)) (BitVec.ofNat 32 (⟨r.val / 2, by omega⟩ : Fin 4).val)) S1x64x2x128.size (k0_off1_inb k 0 ⟨r.val / 2, by omega⟩)).toLoadRect X3)
        (arg3.view.readAt (Elt F) (Rect.unit (s := S1x64x48x128) (k0_off1 k (BitVec.ofNat 32 (4 * (1 : Fin 2).val)) (BitVec.ofNat 32 (⟨r.val / 2, by omega⟩ : Fin 4).val)) S1x64x2x128.size (k0_off1_inb k 1 ⟨r.val / 2, by omega⟩)).toLoadRect X3))
      (arg2.view.readAt (Elt F) (Rect.unit (s := S1x24x128x128) (k0_off2 k (BitVec.ofNat 32 r.val)) S1x1x128x128.size (k0_off2_inb k r)).toLoadRect X2)
      (arg13.view.readAt (Elt F) (Rect.unit (s := S24x128x256) (k0_off3 k (BitVec.ofNat 32 r.val)) S1x128x256.size (k0_off3_inb k r)).toLoadRect X13)
      (((arg5.reshape S1536x128 reshapes_S64x24x128_S1536x128.1 reshapes_S64x24x128_S1536x128.2 harg5.contiguous).slice
        (Rect.unit (s := S1536x128) (k0_off4 k) S1520x128.size (k0_off4_inb k)) (fun _ => rfl)).view.readAt (Elt F)
          (⟨![r.val, 0], S64x128.size, ![24, 1], pair_inb r⟩ : LoadRect S1520x128) X5)
      (arg7.view.readAt (Elt F) (Rect.unit (s := S24x128) (k0_off5 k (BitVec.ofNat 32 r.val)) S1x128.size (k0_off5_inb k r)).toLoadRect X7)⟩

/-- They are the head's new state, from the blocks and the state at the trip's start. -/
theorem piece_eq (r : Fin 8) :
    (piece arg2 arg3 arg5 harg5 arg7 arg13 X2 X3 X5 X7 X13 v6 v8 k r).2
      = headState (arg2.view.read (Elt F) X2) (arg3.view.read (Elt F) X3) (arg5.view.read (Elt F) X5) v6 v8 (arg7.view.read (Elt F) X7)
          (arg13.view.read (Elt F) X13) (headOf k r) := by
  have hp : (⟨(headOf k r).val % 2, by omega⟩ : Fin 2) = ⟨r.val % 2, by omega⟩ := Fin.ext (by simp only [headOf]; omega)
  unfold headState
  rw [hp, ← word_eq, ← value_load arg3 X3 k r 0 ⟨r.val / 2, by omega⟩ rfl, ← value_load arg3 X3 k r 1 ⟨r.val / 2, by omega⟩ rfl,
    ← code_load arg2 X2, ← state_load arg13 X13, ← decay_load arg7 X7, ← pair_load arg5 harg5 X5 k r _ rfl (pair_inb r)]

/-- The state of a head depends on that head's rows of the state before alone. -/
theorem headState_congr {x2 : Vec F S1x24x128x128 .fp8e4m3} {x3 : Vec F S1x64x48x128 .bf16} {x5 : Vec F S64x24x128 .f32}
    {x7 : Vec F S24x128 .f32} {S S' : Vec F S24x128x256 .f32} {h : Fin 24}
    (e : ∀ (d : Fin 128) (v : Fin 256), S (ix3 h d v) = S' (ix3 h d v)) :
    headState x2 x3 x5 v6 v8 x7 S h = headState x2 x3 x5 v6 v8 x7 S' h := by
  unfold headState
  rw [show stateRow S h = stateRow S' h from funext fun i => e _ _]

/-- One trip takes the state to the next trip's. -/
theorem state_step (S : Vec F S24x128x256 .f32)
    (hS : StateAt (arg2.view.read (Elt F) X2) (arg3.view.read (Elt F) X3) (arg5.view.read (Elt F) X5) v6 v8 (arg7.view.read (Elt F) X7) S k.val
      (arg13.view.read (Elt F) X13)) :
    StateAt (arg2.view.read (Elt F) X2) (arg3.view.read (Elt F) X3) (arg5.view.read (Elt F) X5) v6 v8 (arg7.view.read (Elt F) X7) S (k.val + 1)
      (arg13.view.read (Elt F) (arg13.view.writes (Elt F) X13
        ([7, 6, 5, 4, 3, 2, 1, 0].map (piece arg2 arg3 arg5 harg5 arg7 arg13 X2 X3 X5 X7 X13 v6 v8 k)))) := by
  intro x
  have hk := trip_lt k
  have hx : (x 0).val < 24 := (x 0).isLt
  have hmem : ∀ r : Fin 8, (x ∈ (piece arg2 arg3 arg5 harg5 arg7 arg13 X2 X3 X5 X7 X13 v6 v8 k r).1.set ↔ (x 0).val = 8 * k.val + r.val) := by
    intro r
    have h0 : k0_off3 k (BitVec.ofNat 32 r.val) 0 = 8 * k.val + r.val := congrFun (off3_eq k r) 0
    have h1 : k0_off3 k (BitVec.ofNat 32 r.val) 1 = 0 := congrFun (off3_eq k r) 1
    have h2 : k0_off3 k (BitVec.ofNat 32 r.val) 2 = 0 := congrFun (off3_eq k r) 2
    refine (Rect.mem_set_unit (inb := k0_off3_inb k r)).trans ⟨fun h => ?_, fun h a => ?_⟩
    · have h := h 0
      have hl : k0_off3 k (BitVec.ofNat 32 r.val) 0 ≤ (x 0).val := h.1
      have hu : (x 0).val < k0_off3 k (BitVec.ofNat 32 r.val) 0 + 1 := h.2
      omega
    · match a with
      | ⟨0, _⟩ => exact (show k0_off3 k (BitVec.ofNat 32 r.val) 0 ≤ (x 0).val ∧ (x 0).val < k0_off3 k (BitVec.ofNat 32 r.val) 0 + 1 by omega)
      | ⟨1, _⟩ => exact (show k0_off3 k (BitVec.ofNat 32 r.val) 1 ≤ (x 1).val ∧ (x 1).val < k0_off3 k (BitVec.ofNat 32 r.val) 1 + 128 by have : (x 1).val < 128 := (x 1).isLt; omega)
      | ⟨2, _⟩ => exact (show k0_off3 k (BitVec.ofNat 32 r.val) 2 ≤ (x 2).val ∧ (x 2).val < k0_off3 k (BitVec.ofNat 32 r.val) 2 + 256 by have : (x 2).val < 256 := (x 2).isLt; omega)
  by_cases hin : 8 * k.val ≤ (x 0).val ∧ (x 0).val < 8 * (k.val + 1)
  · rw [if_pos hin.2]
    refine View.read_writes_apply_of_pieces (v := arg13.view) (f := X13) (chunkState (arg2.view.read (Elt F) X2) (arg3.view.read (Elt F) X3) (arg5.view.read (Elt F) X5) v6 v8 (arg7.view.read (Elt F) X7) S) _ ?_ x ?_
    · intro p hp y
      obtain ⟨r, -, rfl⟩ := List.mem_map.mp hp
      rw [piece_eq]
      have hy : (y 0).val = 0 := by have : (y 0).val < 1 := (y 0).isLt; omega
      have hemb : (piece arg2 arg3 arg5 harg5 arg7 arg13 X2 X3 X5 X7 X13 v6 v8 k r).1.emb y = ix3 (headOf k r) (y 1 : Fin 128) (y 2 : Fin 256) := by
        funext b
        refine Fin.ext ?_
        match b with
        | ⟨0, _⟩ => exact (congrArg (· + 1 * (y 0).val) (congrFun (off3_eq k r) 0)).trans (by simp [hy])
        | ⟨1, _⟩ => exact (congrArg (· + 1 * (y 1).val) (congrFun (off3_eq k r) 1)).trans (by simp)
        | ⟨2, _⟩ => exact (congrArg (· + 1 * (y 2).val) (congrFun (off3_eq k r) 2)).trans (by simp)
      rw [hemb]
      show _ = headState _ _ _ v6 v8 _ S (headOf k r) (ix3 (0 : Fin 1) (y 1 : Fin 128) (y 2 : Fin 256))
      rw [headState_congr (v6 := v6) (v8 := v8) (S' := S) (fun d v => (hS (ix3 (headOf k r) d v)).trans (if_neg (by show ¬ (8 * k.val + r.val < 8 * k.val); omega)))]
      congr 1
      funext b
      match b with
      | ⟨0, _⟩ => exact Fin.ext hy
      | ⟨1, _⟩ => rfl
      | ⟨2, _⟩ => rfl
    · exact ⟨_, List.mem_map.mpr ⟨⟨(x 0).val - 8 * k.val, by omega⟩, all_heads _, rfl⟩, (hmem _).mpr (by simp; omega)⟩
  · rw [View.read_writes_apply_of_forall_not_mem, hS x]
    · congr 1
      simp only [eq_iff_iff]; omega
    · intro p hp
      obtain ⟨r, -, rfl⟩ := List.mem_map.mp hp
      rw [hmem r]
      have := r.isLt
      omega
end

end Cert.Proof.KernelIdeal

end
-- ==== Proof.KernelIdeal.Output.lean ====
module

public import proofs.«01_k».proof.Proof.KernelIdeal.Trip
public import Idealize.ShloMosaic.Lib.VecWindow

@[expose] public section

set_option maxRecDepth 16384

noncomputable section

namespace Cert.Proof.KernelIdeal

open Cert.KernelIdeal Cert.KernelIdeal.Gen
open Idealize.ShloMosaic

variable {F : FTy → Type} [FloatOps F]

/-! The outputs of a chunk before they are quantised, and the largest of them met so far. -/

/-- What a head reads of the chunk: its queries on the old state plus its second matrix on the new values. -/
def newReads (v6 : IVec S64x128 32) (v8 : FVec F S64x128 .f32) (w : BitVec 32) (v : FVec F S64x256 .f32)
    (kq : Vec F S1x1x128x128 .fp8e4m3) (s : Vec F S1x128x256 .f32) (t : Vec F S64x128 .f32) : FVec F S64x256 .f32 :=
  k0_pay19 k0_pay228 v6 v8 w (k0_pay9 kq s) (k0_pay15 k0_pay228 t (k0_pay10 t)) (k0_pay16 k0_pay228 t (k0_pay10 t))
    (k0_pay17 k0_pay228 t (k0_pay10 t)) (newValues v6 v8 w v kq s t) 32#32

/-- One lane half of a head's outputs, as it is stored. -/
def laneHalf : Fin 2 → FVec F S64x256 .f32 → FVec F S64x128 .f32
  | 0, y => shapeCast S64x128 (extractStridedSlice S64x128 ![0, 0] y slices_S64x256_o0_0_S64x128) shapeCasts_S64x128_S64x128
  | 1, y => shapeCast S64x128 (extractStridedSlice S64x128 ![0, 128] y slices_S64x256_o0_128_S64x128) shapeCasts_S64x128_S64x128

/-- Head `h`'s outputs: what it reads, normalised, weighted and gated. -/
def headOutput (x2 : Vec F S1x24x128x128 .fp8e4m3) (x3 x4 : Vec F S1x64x48x128 .bf16) (x5 : Vec F S64x24x128 .f32)
    (v6 : IVec S64x128 32) (v8 : FVec F S64x128 .f32) (x9 : Vec F S1x256 .f32) (S : Vec F S24x128x256 .f32) (h : Fin 24) : FVec F S64x256 .f32 :=
  k0_pay29 (valuesOf ⟨h.val % 2, by omega⟩ (valueHalf x4 h 0) (valueHalf x4 h 1))
    (newReads v6 v8 (BitVec.ofNat 32 h.val) (valuesOf ⟨h.val % 2, by omega⟩ (valueHalf x3 h 0) (valueHalf x3 h 1))
      (codeRow x2 h) (stateRow S h) (pairRow x5 h)) x9

/-- The head whose outputs row `u` of 48 holds, and the lane half of them. -/
def rowHead (u : ℕ) (hu : u < 48) : Fin 24 := ⟨8 * (u / 16) + u % 8, by omega⟩
def rowHalf (u : ℕ) : Fin 2 := ⟨u % 16 / 8, by omega⟩

/-- All heads' outputs, 48 rows of 128 lanes to a step of the chunk. -/
def chunkOutput (y : Fin 24 → FVec F S64x256 .f32) : Vec F S3072x128 .f32 :=
  fun i => laneHalf (rowHalf ((i 0).val % 48)) (y (rowHead ((i 0).val % 48) (by omega)))
    (ix2 (⟨(i 0).val / 48, by have : (i 0).val < 3072 := (i 0).isLt; omega⟩ : Fin 64) (i 1 : Fin 128))

/-- The rows of the tiles before `k` hold their outputs. -/
def OutputAt (y : Fin 24 → FVec F S64x256 .f32) (k : ℕ) (now : Vec F S3072x128 .f32) : Prop :=
  ∀ x, (x 0).val % 48 < 16 * k → now x = chunkOutput y x

/-- The largest output in absolute value over the heads before `n`, for each step and each lane of a half. -/
def topUpto (y : Fin 24 → FVec F S64x256 .f32) : ℕ → FVec F S64x128 .f32
  | 0 => k0_pay230
  | n + 1 => if h : n < 24 then maximumf (topUpto y n) (maximumf (absf (extractStridedSlice S64x128 ![0, 0] (y ⟨n, h⟩) slices_S64x256_o0_0_S64x128))
      (absf (extractStridedSlice S64x128 ![0, 128] (y ⟨n, h⟩) slices_S64x256_o0_128_S64x128))) else topUpto y n

theorem topUpto_succ (y : Fin 24 → FVec F S64x256 .f32) (n : ℕ) (h : n < 24) :
    topUpto y (n + 1) = maximumf (topUpto y n) (maximumf (absf (extractStridedSlice S64x128 ![0, 0] (y ⟨n, h⟩) slices_S64x256_o0_0_S64x128))
      (absf (extractStridedSlice S64x128 ![0, 128] (y ⟨n, h⟩) slices_S64x256_o0_128_S64x128))) := dif_pos h

theorem off6_eq : ∀ k : Fin k0_t1_loop.trips, k0_off6 k = ![16 * k.val, 0] := by decide +kernel

theorem row_inb : ∀ (r : Fin 8) (half : Fin 2) (b : Fin 2),
    S64x128.size b = 0 ∨ (![r.val + 8 * half.val, 0] : Fin 2 → Nat) b + (![48, 1] : Fin 2 → Nat) b * (S64x128.size b - 1) < S3040x128.size b := by
  decide

section
variable (arg2 : Memref sig .tc .vmem S1x24x128x128 .fp8e4m3) (arg3 : Memref sig .tc .vmem S1x64x48x128 .bf16)
  (arg4 : Memref sig .tc .vmem S1x64x48x128 .bf16)
  (arg5 : Memref sig .tc .vmem S64x24x128 .f32) (harg5 : arg5.IsWhole) (arg9 : Memref sig .tc .vmem S1x256 .f32)
  (arg13 : Memref sig .tc .vmem S24x128x256 .f32) (arg14 : Memref sig .tc .vmem S3072x128 .f32)
  (X2 : BufTy.Contents (Elt F) arg2.view.ty) (X3 : BufTy.Contents (Elt F) arg3.view.ty) (X4 : BufTy.Contents (Elt F) arg4.view.ty)
  (X5 : BufTy.Contents (Elt F) arg5.view.ty)
  (X9 : BufTy.Contents (Elt F) arg9.view.ty) (X13 : BufTy.Contents (Elt F) arg13.view.ty) (X14 : BufTy.Contents (Elt F) arg14.view.ty)
  (v6 : IVec S64x128 32) (v8 : FVec F S64x128 .f32) (k : Fin k0_t1_loop.trips)

/-- The outputs trip `k` computes for its `r`-th head. -/
abbrev tripOutput (r : Fin 8) : FVec F S64x256 .f32 :=
  k0_pay29 (valuesOf ⟨r.val % 2, by omega⟩
        (arg4.view.readAt (Elt F) (Rect.unit (s := S1x64x48x128) (k0_off1 k (BitVec.ofNat 32 (4 * (0 : Fin 2).val)) (BitVec.ofNat 32 (⟨r.val / 2, by omega⟩ : Fin 4).val)) S1x64x2x128.size (k0_off1_inb k 0 ⟨r.val / 2, by omega⟩)).toLoadRect X4)
        (arg4.view.readAt (Elt F) (Rect.unit (s := S1x64x48x128) (k0_off1 k (BitVec.ofNat 32 (4 * (1 : Fin 2).val)) (BitVec.ofNat 32 (⟨r.val / 2, by omega⟩ : Fin 4).val)) S1x64x2x128.size (k0_off1_inb k 1 ⟨r.val / 2, by omega⟩)).toLoadRect X4))
    (newReads v6 v8 (Scalar.addi (Scalar.muli 8#32 (Scf.iv 0#32 1#32 k)) (BitVec.ofNat 32 r.val))
      (valuesOf ⟨r.val % 2, by omega⟩
        (arg3.view.readAt (Elt F) (Rect.unit (s := S1x64x48x128) (k0_off1 k (BitVec.ofNat 32 (4 * (0 : Fin 2).val)) (BitVec.ofNat 32 (⟨r.val / 2, by omega⟩ : Fin 4).val)) S1x64x2x128.size (k0_off1_inb k 0 ⟨r.val / 2, by omega⟩)).toLoadRect X3)
        (arg3.view.readAt (Elt F) (Rect.unit (s := S1x64x48x128) (k0_off1 k (BitVec.ofNat 32 (4 * (1 : Fin 2).val)) (BitVec.ofNat 32 (⟨r.val / 2, by omega⟩ : Fin 4).val)) S1x64x2x128.size (k0_off1_inb k 1 ⟨r.val / 2, by omega⟩)).toLoadRect X3))
      (arg2.view.readAt (Elt F) (Rect.unit (s := S1x24x128x128) (k0_off2 k (BitVec.ofNat 32 r.val)) S1x1x128x128.size (k0_off2_inb k r)).toLoadRect X2)
      (arg13.view.readAt (Elt F) (Rect.unit (s := S24x128x256) (k0_off3 k (BitVec.ofNat 32 r.val)) S1x128x256.size (k0_off3_inb k r)).toLoadRect X13)
      (((arg5.reshape S1536x128 reshapes_S64x24x128_S1536x128.1 reshapes_S64x24x128_S1536x128.2 harg5.contiguous).slice
        (Rect.unit (s := S1536x128) (k0_off4 k) S1520x128.size (k0_off4_inb k)) (fun _ => rfl)).view.readAt (Elt F)
          (⟨![r.val, 0], S64x128.size, ![24, 1], pair_inb r⟩ : LoadRect S1520x128) X5))
    (arg9.view.readAt (Elt F) (Rect.unit (s := S1x256) ![0, 0] S1x256.size inb_S1x256_S1x256_0_0).toLoadRect X9)

/-- They are the head's outputs, from the blocks and the state at the chunk's start. -/
theorem tripOutput_eq (S : Vec F S24x128x256 .f32) {x7 : Vec F S24x128 .f32}
    (hS : StateAt (arg2.view.read (Elt F) X2) (arg3.view.read (Elt F) X3) (arg5.view.read (Elt F) X5) v6 v8 x7 S k.val
      (arg13.view.read (Elt F) X13)) (r : Fin 8) :
    tripOutput arg2 arg3 arg4 arg5 harg5 arg9 arg13 X2 X3 X4 X5 X9 X13 v6 v8 k r
      = headOutput (arg2.view.read (Elt F) X2) (arg3.view.read (Elt F) X3) (arg4.view.read (Elt F) X4) (arg5.view.read (Elt F) X5) v6 v8
          (arg9.view.read (Elt F) X9) S (headOf k r) := by
  have hp : (⟨(headOf k r).val % 2, by omega⟩ : Fin 2) = ⟨r.val % 2, by omega⟩ := Fin.ext (by simp only [headOf]; omega)
  have e : stateRow S (headOf k r) = stateRow (arg13.view.read (Elt F) X13) (headOf k r) := funext fun i =>
    ((hS (ix3 (headOf k r) (i 1) (i 2))).trans (if_neg (by show ¬ (8 * k.val + r.val < 8 * k.val); omega))).symm
  unfold headOutput
  rw [hp, e, ← word_eq, ← value_load arg3 X3 k r 0 ⟨r.val / 2, by omega⟩ rfl, ← value_load arg3 X3 k r 1 ⟨r.val / 2, by omega⟩ rfl,
    ← value_load arg4 X4 k r 0 ⟨r.val / 2, by omega⟩ rfl, ← value_load arg4 X4 k r 1 ⟨r.val / 2, by omega⟩ rfl,
    ← code_load arg2 X2, ← state_load arg13 X13, ← pair_load arg5 harg5 X5 k r _ rfl (pair_inb r)]
  unfold tripOutput
  rw [View.readAt_full]

/-- The rows trip `k` stores for one lane half of its `r`-th head. -/
abbrev outPiece (p : Fin 8 × Fin 2) : View.Piece (Elt F) S3072x128 .f32 :=
  ⟨(Rect.unit (s := S3072x128) (k0_off6 k) S3040x128.size (k0_off6_inb k)).within
      ⟨(⟨![p.1.val + 8 * p.2.val, 0], S64x128.size, ![48, 1], row_inb p.1 p.2⟩ : LoadRect S3040x128), spos_48_1⟩ (fun _ => rfl),
    laneHalf p.2 (tripOutput arg2 arg3 arg4 arg5 harg5 arg9 arg13 X2 X3 X4 X5 X9 X13 v6 v8 k p.1)⟩

theorem all_rows : ∀ p : Fin 8 × Fin 2, p ∈ ([(7, 1), (7, 0), (6, 1), (6, 0), (5, 1), (5, 0), (4, 1), (4, 0), (3, 1), (3, 0), (2, 1), (2, 0),
    (1, 1), (1, 0), (0, 1), (0, 0)] : List (Fin 8 × Fin 2)) := by decide

/-- One trip takes the outputs to the next trip's. -/
theorem output_step (S : Vec F S24x128x256 .f32) {x7 : Vec F S24x128 .f32}
    (hS : StateAt (arg2.view.read (Elt F) X2) (arg3.view.read (Elt F) X3) (arg5.view.read (Elt F) X5) v6 v8 x7 S k.val
      (arg13.view.read (Elt F) X13))
    (hO : OutputAt (headOutput (arg2.view.read (Elt F) X2) (arg3.view.read (Elt F) X3) (arg4.view.read (Elt F) X4) (arg5.view.read (Elt F) X5) v6 v8
          (arg9.view.read (Elt F) X9) S) k.val (arg14.view.read (Elt F) X14)) :
    OutputAt (headOutput (arg2.view.read (Elt F) X2) (arg3.view.read (Elt F) X3) (arg4.view.read (Elt F) X4) (arg5.view.read (Elt F) X5) v6 v8
          (arg9.view.read (Elt F) X9) S) (k.val + 1) (arg14.view.read (Elt F) (arg14.view.writes (Elt F) X14
        ([(7, 1), (7, 0), (6, 1), (6, 0), (5, 1), (5, 0), (4, 1), (4, 0), (3, 1), (3, 0), (2, 1), (2, 0),
          (1, 1), (1, 0), (0, 1), (0, 0)].map (outPiece arg2 arg3 arg4 arg5 harg5 arg9 arg13 X2 X3 X4 X5 X9 X13 v6 v8 k)))) := by
  intro x hx
  have hk := trip_lt k
  have hx0 : (x 0).val < 3072 := (x 0).isLt
  have hx1 : (x 1).val < 128 := (x 1).isLt
  have e0 : k0_off6 k 0 = 16 * k.val := congrFun (off6_eq k) 0
  have e1 : k0_off6 k 1 = 0 := congrFun (off6_eq k) 1
  have hmem : ∀ p : Fin 8 × Fin 2, (x ∈ (outPiece arg2 arg3 arg4 arg5 harg5 arg9 arg13 X2 X3 X4 X5 X9 X13 v6 v8 k p).1.set
      ↔ (x 0).val % 48 = 16 * k.val + (p.1.val + 8 * p.2.val)) := by
    rintro ⟨r, half⟩
    have hr := r.isLt
    have hh := half.isLt
    refine (LoadRect.mem_set _).trans ⟨fun h => ?_, fun h a => ?_⟩
    · obtain ⟨j, hj, e⟩ := h 0
      have e : (x 0).val = k0_off6 k 0 + (r.val + 8 * half.val) + 48 * j := e
      rw [e0] at e
      show _ = 16 * k.val + (r.val + 8 * half.val)
      omega
    · have h : (x 0).val % 48 = 16 * k.val + (r.val + 8 * half.val) := h
      match a with
      | ⟨0, _⟩ =>
        refine ⟨(x 0).val / 48, (by show (x 0).val / 48 < 64; omega), ?_⟩
        show (x 0).val = k0_off6 k 0 + (r.val + 8 * half.val) + 48 * ((x 0).val / 48)
        rw [e0]; omega
      | ⟨1, _⟩ =>
        refine ⟨(x 1).val, hx1, ?_⟩
        show (x 1).val = k0_off6 k 1 + 0 + 1 * (x 1).val
        rw [e1]; omega
  by_cases hin : 16 * k.val ≤ (x 0).val % 48
  · refine View.read_writes_apply_of_pieces (v := arg14.view) (f := X14) (chunkOutput (headOutput (arg2.view.read (Elt F) X2) (arg3.view.read (Elt F) X3) (arg4.view.read (Elt F) X4) (arg5.view.read (Elt F) X5) v6 v8
          (arg9.view.read (Elt F) X9) S)) _ ?_ x ?_
    · intro p hp y
      obtain ⟨⟨r, half⟩, -, rfl⟩ := List.mem_map.mp hp
      have hr := r.isLt
      have hh := half.isLt
      have hy0 : (y 0).val < 64 := (y 0).isLt
      show laneHalf half (tripOutput arg2 arg3 arg4 arg5 harg5 arg9 arg13 X2 X3 X4 X5 X9 X13 v6 v8 k r) y = _
      rw [tripOutput_eq arg2 arg3 arg4 arg5 harg5 arg9 arg13 X2 X3 X4 X5 X9 X13 v6 v8 k S hS r]
      have f0 : ((outPiece arg2 arg3 arg4 arg5 harg5 arg9 arg13 X2 X3 X4 X5 X9 X13 v6 v8 k (r, half)).1.emb y 0).val = 16 * k.val + (r.val + 8 * half.val) + 48 * (y 0).val :=
        congrArg (· + (r.val + 8 * half.val) + 48 * (y 0).val) e0
      have f1 : ((outPiece arg2 arg3 arg4 arg5 harg5 arg9 arg13 X2 X3 X4 X5 X9 X13 v6 v8 k (r, half)).1.emb y 1).val = (y 1).val :=
        (congrArg (· + 0 + 1 * (y 1).val) e1).trans (by omega)
      unfold chunkOutput
      generalize (outPiece arg2 arg3 arg4 arg5 harg5 arg9 arg13 X2 X3 X4 X5 X9 X13 v6 v8 k (r, half)).1.emb y = z at f0 f1
      have g1 : rowHalf ((z 0).val % 48) = half := Fin.ext (by simp only [rowHalf]; omega)
      have g2 : ∀ hu, rowHead ((z 0).val % 48) hu = headOf k r := fun hu => Fin.ext (by simp only [rowHead, headOf]; omega)
      rw [g1, g2]
      refine congrArg _ (funext fun b => ?_)
      match b with
      | ⟨0, _⟩ => exact Fin.ext (by show (y 0).val = (z 0).val / 48; omega)
      | ⟨1, _⟩ => exact Fin.ext f1.symm
    · refine ⟨_, List.mem_map.mpr ⟨(⟨(x 0).val % 48 % 8, by omega⟩, ⟨(x 0).val % 48 % 16 / 8, by omega⟩), all_rows _, rfl⟩, (hmem _).mpr ?_⟩
      simp only
      omega
  · rw [View.read_writes_apply_of_forall_not_mem]
    · exact hO x (by omega)
    · intro p hp
      obtain ⟨p, -, rfl⟩ := List.mem_map.mp hp
      rw [hmem p]
      omega

/-- One head more into the largest. -/
def topWith (acc : FVec F S64x128 .f32) (y : FVec F S64x256 .f32) : FVec F S64x128 .f32 :=
  maximumf acc (maximumf (absf (extractStridedSlice S64x128 ![0, 0] y slices_S64x256_o0_0_S64x128))
      (absf (extractStridedSlice S64x128 ![0, 128] y slices_S64x256_o0_128_S64x128)))

/-- One trip takes the largest output to the next trip's. -/
theorem top_step (S : Vec F S24x128x256 .f32) {x7 : Vec F S24x128 .f32} (acc : FVec F S64x128 .f32)
    (hS : StateAt (arg2.view.read (Elt F) X2) (arg3.view.read (Elt F) X3) (arg5.view.read (Elt F) X5) v6 v8 x7 S k.val
      (arg13.view.read (Elt F) X13))
    (hA : acc = topUpto (headOutput (arg2.view.read (Elt F) X2) (arg3.view.read (Elt F) X3) (arg4.view.read (Elt F) X4) (arg5.view.read (Elt F) X5) v6 v8
          (arg9.view.read (Elt F) X9) S) (8 * k.val)) :
    ([0, 1, 2, 3, 4, 5, 6, 7].map (tripOutput arg2 arg3 arg4 arg5 harg5 arg9 arg13 X2 X3 X4 X5 X9 X13 v6 v8 k)).foldl topWith acc
      = topUpto (headOutput (arg2.view.read (Elt F) X2) (arg3.view.read (Elt F) X3) (arg4.view.read (Elt F) X4) (arg5.view.read (Elt F) X5) v6 v8
          (arg9.view.read (Elt F) X9) S) (8 * (k.val + 1)) := by
  have hk := trip_lt k
  simp only [List.map_cons, List.map_nil, List.foldl_cons, List.foldl_nil, tripOutput_eq arg2 arg3 arg4 arg5 harg5 arg9 arg13 X2 X3 X4 X5 X9 X13 v6 v8 k S hS, hA]
  rw [show 8 * (k.val + 1) = 8 * k.val + 1 + 1 + 1 + 1 + 1 + 1 + 1 + 1 by omega]
  simp only [topUpto_succ _ _ (show 8 * k.val + 1 + 1 + 1 + 1 + 1 + 1 + 1 < 24 by omega), topUpto_succ _ _ (show 8 * k.val + 1 + 1 + 1 + 1 + 1 + 1 < 24 by omega),
    topUpto_succ _ _ (show 8 * k.val + 1 + 1 + 1 + 1 + 1 < 24 by omega), topUpto_succ _ _ (show 8 * k.val + 1 + 1 + 1 + 1 < 24 by omega),
    topUpto_succ _ _ (show 8 * k.val + 1 + 1 + 1 < 24 by omega), topUpto_succ _ _ (show 8 * k.val + 1 + 1 < 24 by omega),
    topUpto_succ _ _ (show 8 * k.val + 1 < 24 by omega), topUpto_succ _ _ (show 8 * k.val < 24 by omega)]
  rfl
end

end Cert.Proof.KernelIdeal

end
-- ==== Proof.KernelIdeal.Reads.lean ====
module

public import proofs.«01_k».proof.Proof.KernelIdeal.Heads
public import proofs.«01_k».proof.Proof.KernelIdeal.Output
public import proofs.«01_k».proof.Proof.Delta

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic

/-! What a head reads of the chunk when everything is finite. -/

/-- The second matrix of a pair, moved to the first half of the lanes. -/
def moved (T : Fin 64 → Fin 128 → ℝ) (r : Fin 64) (x : Fin 128) : ℝ := if h : x.val < 64 then T r ⟨x.val + 64, by omega⟩ else T r x

theorem front_at (t : Vec Ideal S64x128 .f32) (T : Fin 64 → Fin 128 → ℝ) (ht : ∀ r x, t (ix2 r x) = ((T r x : ℝ) : EReal)) (r : Fin 64) (x : Fin 128) :
    k0_pay11 k0_pay228 t (k0_pay10 t) (ix2 r x) = ((moved T r x : ℝ) : EReal) := by
  have hx := x.isLt
  unfold k0_pay11 k0_pay228 k0_pay10 moved
  pointwise
  simp only [ht]
  rw [select_slt _ _ (by omega) (by decide)]
  by_cases h : x.val < 64
  · rw [if_pos h, dif_pos h]
    refine congrArg (fun l => ((T r l : ℝ) : EReal)) (Fin.ext ?_)
    show (x.val + 128 - 64) % 128 = x.val + 64
    omega
  · rw [if_neg h, dif_neg h]

theorem first_at (t : Vec Ideal S64x128 .f32) (T : Fin 64 → Fin 128 → ℝ) (ht : ∀ r x, t (ix2 r x) = ((T r x : ℝ) : EReal)) (r : Fin 64) (x : Fin 128) :
    k0_pay15 k0_pay228 t (k0_pay10 t) (ix2 r x) = ((moved T r x : ℝ) : EReal) := by
  rw [← front_at t T ht]
  unfold k0_pay15 k0_pay12
  pointwise

theorem second_at (t : Vec Ideal S64x128 .f32) (T : Fin 64 → Fin 128 → ℝ) (ht : ∀ r x, t (ix2 r x) = ((T r x : ℝ) : EReal)) (r : Fin 64) (x : Fin 128) :
    k0_pay16 k0_pay228 t (k0_pay10 t) (ix2 r x) = ((0 : ℝ) : EReal) := by
  have e := front_at t T ht r x
  unfold k0_pay16 k0_pay14 k0_pay13 k0_pay12
  generalize k0_pay11 k0_pay228 t (k0_pay10 t) = A at e ⊢
  pointwise
  rw [e, ← EReal.coe_sub, sub_self]

theorem third_at (t : Vec Ideal S64x128 .f32) (T : Fin 64 → Fin 128 → ℝ) (ht : ∀ r x, t (ix2 r x) = ((T r x : ℝ) : EReal)) (r : Fin 64) (x : Fin 128) :
    k0_pay17 k0_pay228 t (k0_pay10 t) (ix2 r x) = ((0 : ℝ) : EReal) := by
  have e := front_at t T ht r x
  unfold k0_pay17 k0_pay14 k0_pay13 k0_pay12
  generalize k0_pay11 k0_pay228 t (k0_pay10 t) = A at e ⊢
  pointwise
  rw [e, ← EReal.coe_sub, ← EReal.coe_sub, sub_self]

set_option maxHeartbeats 2000000 in
/-- What a head reads: its grown queries on the old state plus its second matrix on the new values. -/
theorem reads_at (v6 : IVec S64x128 32) (v8 : FVec Ideal S64x128 .f32) (h h' : Fin 128) (hh : h'.val = 32 + h.val)
    (P : FVec Ideal S128x256 .f32) (A B Z : FVec Ideal S64x128 .bf16) (N : FVec Ideal S64x256 .f32)
    (C : Fin 64 → Fin 128 → ℝ) (Q : Fin 128 → Fin 256 → ℝ) (a : Fin 64 → Fin 128 → ℝ) (W : Fin 64 → Fin 256 → ℝ)
    (h6 : ∀ (j : Fin 64) (l : Fin 128), v6 (ix2 j l) = BitVec.ofNat 32 l.val)
    (h8 : ∀ j l, v8 (ix2 j l) = ((C j l : ℝ) : EReal)) (hN : ∀ r n, N (ix2 r n) = ((W r n : ℝ) : EReal))
    (hP : ∀ r n, P (ix2 r n) = ((Q r n : ℝ) : EReal)) (hA : ∀ r x, A (ix2 r x) = ((a r x : ℝ) : EReal))
    (hB : ∀ r x, B (ix2 r x) = ((0 : ℝ) : EReal)) (hZ : ∀ r x, Z (ix2 r x) = ((0 : ℝ) : EReal)) (r : Fin 64) (n : Fin 256) :
    k0_pay19 k0_pay228 v6 v8 (BitVec.ofNat 32 h.val) P A B Z N 32#32 (ix2 r n)
      = ((C r h' * Q (Fin.natAdd 64 r) n + ∑ j : Fin 64, a r (low j) * W j n : ℝ) : EReal) := by
  have hs : ∀ (x : ℕ) (hx : x < 128) (a b : ℝ), Scalar.select (IntOp.cmpi .slt (BitVec.ofNat 32 x) 64#32) a b = if x < 64 then a else b :=
    fun x hx a b => select_slt a b (by omega) (by decide)
  have hw : Scalar.addi 32#32 (BitVec.ofNat 32 h.val) = BitVec.ofNat 32 h'.val := by
    rw [hh, BitVec.ofNat_add]; rfl
  have hcol : ∀ j, (∑ l : Fin 128, Scalar.select (IntOp.cmpi .eq (v6 (ix2 j l)) (BitVec.ofNat 32 h'.val)) ((C j l : ℝ) : EReal) (0 : EReal)) = ((C j h' : ℝ) : EReal) := by
    intro j
    have e := column_at v6 v8 h' j h6
    simp only [h8] at e
    exact e
  unfold k0_pay19 k0_pay228
  pointwise
  simp only [hw, h8, hN, hP, hA, hB, hZ, hcol, select_coe, ← EReal.coe_sub, ← EReal.coe_mul, sub_self, select_same]
  rw [EReal.coe_add, ← coe_sum]
  refine congrArg₂ (fun x y : EReal => x + y) rfl (sum_head (a := 64) (by omega) _ _ (fun j => ?_) (fun x hx => ?_))
  · have hj := j.isLt
    have h1 : j.val < 128 := by omega
    simp only [Fin.val_castLE, h1, hj, dif_pos]
    exact (EReal.coe_mul _ _).symm
  · have hxx := x.isLt
    have h : ¬ x.val < 64 := by omega
    rcases (by omega : x.val < 128 ∨ (128 ≤ x.val ∧ x.val < 192) ∨ (192 ≤ x.val ∧ x.val < 256) ∨ 256 ≤ x.val) with h1 | h1 | h1 | h1
    · have h2 : x.val - 64 < 64 := by omega
      simp [h, h2]
    · have h2 : ¬ x.val - 64 < 64 := by omega
      have h3 : x.val - 64 - 64 < 64 := by omega
      simp [h, h2, h3]
    · have h2 : ¬ x.val < 128 := by omega
      have h3 : x.val - 128 < 128 := by omega
      have h4 : ¬ x.val - 128 < 64 := by omega
      simp [h2, h3, h4, hs _ h3]
    · have h2 : ¬ x.val < 128 := by omega
      have h3 : ¬ x.val - 128 < 128 := by omega
      simp [h2, h3]

/-- A head's outputs: what it reads, normalised, weighted and gated. -/
theorem gated_at (z o : FVec Ideal S64x256 .f32) (w : Vec Ideal S1x256 .f32) (Z O : Fin 64 → Fin 256 → ℝ) (W : Fin 256 → ℝ)
    (hz : ∀ r n, z (ix2 r n) = ((Z r n : ℝ) : EReal)) (ho : ∀ r n, o (ix2 r n) = ((O r n : ℝ) : EReal)) (hw : ∀ n, w (ix2 0 n) = ((W n : ℝ) : EReal))
    (r : Fin 64) (n : Fin 256) : k0_pay29 z o w (ix2 r n) = ((gated (O r) (Z r) W n : ℝ) : EReal) := by
  unfold k0_pay29
  pointwise
  simp only [hz, ho, hw, ← EReal.coe_mul, coe_sum]
  exact gated_coe (O r) (Z r) W n _ (by rw [word_256th, eps_coe, ← EReal.coe_mul, ← EReal.coe_add, mul_one_div])

end Cert.Proof.KernelIdeal

end
-- ==== Proof.KernelIdeal.Loop.lean ====
module

public import proofs.«01_k».proof.Proof.Gen.KernelIdeal.Loops
public import proofs.«01_k».proof.Proof.KernelIdeal.Output
public import Idealize.ShloMosaic.Lib.Tactic

@[expose] public section

set_option maxRecDepth 16384
set_option maxHeartbeats 8000000
set_option warn.classDefReducibility false

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation)

variable {F : FTy → Type} [FloatOps F]

local notation "𝕄" => MT nD τ sig Unit (Elt F) ℕ (UR sig nD τ) ℕ

/-- What the loop over the tiles of heads holds before trip `k`: the blocks it reads at their contents, the state with
    the heads of the trips before at their new rows, those heads' outputs and the largest of them. -/
abbrev Held (c : Dev nD) (k : ℕ) (acc : FVec F S64x128 .f32) (arg2 : Memref sig .tc .vmem S1x24x128x128 .fp8e4m3) (arg3 : Memref sig .tc .vmem S1x64x48x128 .bf16) (arg4 : Memref sig .tc .vmem S1x64x48x128 .bf16) (arg5 : Memref sig .tc .vmem S64x24x128 .f32) (arg7 : Memref sig .tc .vmem S24x128 .f32) (arg9 : Memref sig .tc .vmem S1x256 .f32) (arg13 : Memref sig .tc .vmem S24x128x256 .f32) (arg14 : Memref sig .tc .vmem S3072x128 .f32)
    (v6 : IVec S64x128 32) (v8 : FVec F S64x128 .f32) (S : Vec F S24x128x256 .f32)
    (X2 : BufTy.Contents (Elt F) arg2.view.ty) (X3 : BufTy.Contents (Elt F) arg3.view.ty) (X4 : BufTy.Contents (Elt F) arg4.view.ty) (X5 : BufTy.Contents (Elt F) arg5.view.ty) (X7 : BufTy.Contents (Elt F) arg7.view.ty) (X9 : BufTy.Contents (Elt F) arg9.view.ty) : sProp 𝕄 :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg7.view.loc (c : Thread nD τ) ↦[arg7.view.set]{fullShare} X7) ∗ (arg9.view.loc (c : Thread nD τ) ↦[arg9.view.set]{fullShare} X9)
    ∗ (∃ f : BufTy.Contents (Elt F) arg13.view.ty, (arg13.view.loc (c : Thread nD τ) ↦[arg13.view.set]{fullShare} f)
      ∗ ⌜StateAt (arg2.view.read (Elt F) X2) (arg3.view.read (Elt F) X3) (arg5.view.read (Elt F) X5) v6 v8 (arg7.view.read (Elt F) X7) S k (arg13.view.read (Elt F) f)⌝) ∗ (∃ f : BufTy.Contents (Elt F) arg14.view.ty, (arg14.view.loc (c : Thread nD τ) ↦[arg14.view.set]{fullShare} f)
      ∗ ⌜OutputAt (headOutput (arg2.view.read (Elt F) X2) (arg3.view.read (Elt F) X3) (arg4.view.read (Elt F) X4) (arg5.view.read (Elt F) X5) v6 v8 (arg9.view.read (Elt F) X9) S) k (arg14.view.read (Elt F) f)⌝)
    ∗ ⌜acc = topUpto (headOutput (arg2.view.read (Elt F) X2) (arg3.view.read (Elt F) X3) (arg4.view.read (Elt F) X4) (arg5.view.read (Elt F) X5) v6 v8 (arg9.view.read (Elt F) X9) S) (8 * k)⌝)

/-- One trip keeps what the loop holds: it reads its blocks, updates eight heads of the state and stores their outputs. -/
@[sl_loop] def exactLoop (𝒱 : Variants) (c : Dev nD) (bd : Option 𝒱.V) (E : Set ℕ) (i : grid0.Coords)
    (arg2 : Memref sig .tc .vmem S1x24x128x128 .fp8e4m3) (harg2 : arg2.IsWhole)
    (arg3 : Memref sig .tc .vmem S1x64x48x128 .bf16) (harg3 : arg3.IsWhole)
    (arg4 : Memref sig .tc .vmem S1x64x48x128 .bf16) (harg4 : arg4.IsWhole)
    (arg5 : Memref sig .tc .vmem S64x24x128 .f32) (harg5 : arg5.IsWhole)
    (arg6 : Memref sig .tc .vmem S1x64x128 .f32) (harg6 : arg6.IsWhole)
    (arg7 : Memref sig .tc .vmem S24x128 .f32) (harg7 : arg7.IsWhole)
    (arg8 : Memref sig .tc .vmem S1x24x128x256 .f32) (harg8 : arg8.IsWhole)
    (arg9 : Memref sig .tc .vmem S1x256 .f32) (harg9 : arg9.IsWhole)
    (arg10 : Memref sig .tc .vmem S1x64x48x128 .fp8e4m3) (harg10 : arg10.IsWhole)
    (arg11 : Memref sig .tc .vmem S1x1x1x64 .f32) (harg11 : arg11.IsWhole)
    (arg12 : Memref sig .tc .vmem S1x24x128x256 .f32) (harg12 : arg12.IsWhole)
    (arg13 : Memref sig .tc .vmem S24x128x256 .f32) (harg13 : arg13.IsWhole)
    (arg14 : Memref sig .tc .vmem S3072x128 .f32) (harg14 : arg14.IsWhole)
    (v6 : IVec S64x128 32) (v7 : Vec F S1x64x128 .f32) (S : Vec F S24x128x256 .f32) (X2 : BufTy.Contents (Elt F) arg2.view.ty) (X3 : BufTy.Contents (Elt F) arg3.view.ty) (X4 : BufTy.Contents (Elt F) arg4.view.ty) (X5 : BufTy.Contents (Elt F) arg5.view.ty) (X7 : BufTy.Contents (Elt F) arg7.view.ty) (X9 : BufTy.Contents (Elt F) arg9.view.ty) (init : FVec F S64x128 .f32) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 v6 v7 init where
  inv := fun k acc => Held (F := F) c k acc arg2 arg3 arg4 arg5 arg7 arg9 arg13 arg14 v6 (k0_pay229 v7) S X2 X3 X4 X5 X7 X9
  step k acc := by
    have hk : k.val < 3 := Nat.lt_of_lt_of_le k.isLt k0_t1_abs.2.1
    unfold k0_t1_body
    iintro ⟨H2, H3, H4, H5, H7, H9, ⟨%f13, H13, %hS⟩, ⟨%f14, H14, %hO⟩, %hA⟩
    sl_exec
    sl_step
    isplitl [H2]; · iexact H2
    isplitl [H3]; · iexact H3
    isplitl [H4]; · iexact H4
    isplitl [H5]; · iexact H5
    isplitl [H7]; · iexact H7
    isplitl [H9]; · iexact H9
    isplitl [H13]
    · iexists _
      isplitl [H13]; · iexact H13
      ipureintro
      exact state_step arg2 arg3 arg5 harg5 arg7 arg13 X2 X3 X5 X7 f13 v6 (k0_pay229 v7) k S hS
    isplitl [H14]
    · iexists _
      isplitl [H14]; · iexact H14
      ipureintro
      exact output_step arg2 arg3 arg4 arg5 harg5 arg9 arg13 arg14 X2 X3 X4 X5 X9 f13 f14 v6 (k0_pay229 v7) k S hS hO
    · ipureintro
      exact top_step arg2 arg3 arg4 arg5 harg5 arg9 arg13 X2 X3 X4 X5 X9 f13 v6 (k0_pay229 v7) k S acc hS hA

end Cert.Proof.KernelIdeal

end
-- ==== Proof.KernelIdeal.Body.lean ====
module

public import proofs.«01_k».proof.Proof.KernelIdeal.Loop
public import Idealize.ShloMosaic.Lib.VecWindow

@[expose] public section

set_option maxRecDepth 16384
set_option maxHeartbeats 8000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation)

variable {F : FTy → Type} [FloatOps F]

local notation "𝕄" => MT nD τ sig Unit (Elt F) ℕ (UR sig nD τ) ℕ

/-- The guard of the first chunk of a batch, as the body computes it. -/
abbrev AtFirst (i : grid0.Coords) : Prop :=
  (Scalar.cmpi .ne (Scalar.extui (Scalar.cmpi .eq (BitVec.ofNat 32 (i 1).val) 0#32)) 0#32) = 1#1

/-- The guard of the last chunk of a batch, as the body computes it. -/
abbrev AtLast (i : grid0.Coords) : Prop := k0_cond2 i = 1#1

/-- A buffer held at some contents is held at whatever a read of it gives. -/
theorem held_any (c : Dev nD) {sp : Space} {s : Shape} {e : EltTy} (a : Memref sig .tc sp s e) (f : BufTy.Contents (Elt F) a.view.ty) :
    (a.view.loc (c : Thread nD τ) ↦[a.view.set]{fullShare} f : sProp 𝕄)
      ⊢ iprop(∃ x, ∃ f : BufTy.Contents (Elt F) a.view.ty, ⌜a.view.read (Elt F) f = x⌝ ∗ (a.view.loc (c : Thread nD τ) ↦[a.view.set]{fullShare} f)) := by
  iintro H
  iexists (a.view.read (Elt F) f)
  iexists f
  isplitr
  · ipureintro; rfl
  iexact H

/-- The state the chunk starts from: the array of initial states at a batch's first chunk, the chunk before's elsewhere. -/
def stateBefore (i : grid0.Coords) (x8 : Vec F S1x24x128x256 .f32) (x13 : Vec F S24x128x256 .f32) : Vec F S24x128x256 .f32 :=
  if AtFirst i then k0_pay227 x8 else x13

/-- The state the chunk leaves. -/
def stateAfter (i : grid0.Coords) (x2 : Vec F S1x24x128x128 .fp8e4m3) (x3 : Vec F S1x64x48x128 .bf16) (x5 : Vec F S64x24x128 .f32)
    (x6 : Vec F S1x64x128 .f32) (x7 : Vec F S24x128 .f32) (x8 : Vec F S1x24x128x256 .f32) (x13 : Vec F S24x128x256 .f32) :
    Vec F S24x128x256 .f32 :=
  chunkState x2 x3 x5 (iota .tc S64x128 32 [1] iota_S64x128_d1_w32) (k0_pay229 x6) x7 (stateBefore i x8 x13)

/-- The block of final states after the chunk: the state at a batch's last chunk, untouched elsewhere. -/
def resultAfter (i : grid0.Coords) (x2 : Vec F S1x24x128x128 .fp8e4m3) (x3 : Vec F S1x64x48x128 .bf16) (x5 : Vec F S64x24x128 .f32)
    (x6 : Vec F S1x64x128 .f32) (x7 : Vec F S24x128 .f32) (x8 : Vec F S1x24x128x256 .f32) (x12 : Vec F S1x24x128x256 .f32)
    (x13 : Vec F S24x128x256 .f32) : Vec F S1x24x128x256 .f32 :=
  if AtLast i then k0_pay3 (stateAfter i x2 x3 x5 x6 x7 x8 x13) else x12

/-- After the last trip every head's rows are new. -/
theorem state_done {i : grid0.Coords} {x2 : Vec F S1x24x128x128 .fp8e4m3} {x3 : Vec F S1x64x48x128 .bf16} {x5 : Vec F S64x24x128 .f32}
    {x6 : Vec F S1x64x128 .f32} {x7 : Vec F S24x128 .f32} {x8 : Vec F S1x24x128x256 .f32} {x13 S now : Vec F S24x128x256 .f32}
    (h : StateAt x2 x3 x5 (iota .tc S64x128 32 [1] iota_S64x128_d1_w32) (k0_pay229 x6) x7 S
      (Scf.trips k0_t1_loop.lb k0_t1_loop.ub k0_t1_loop.st) now)
    (hS : S = stateBefore i x8 x13) : now = stateAfter i x2 x3 x5 x6 x7 x8 x13 := by
  funext x
  have h0 : (x 0).val < 24 := (x 0).isLt
  have h3 : Scf.trips k0_t1_loop.lb k0_t1_loop.ub k0_t1_loop.st = 3 := by decide
  rw [h x, h3, if_pos (by omega), hS, stateAfter]

/-- The outputs of the chunk before they are quantised. -/
def outputsAfter (i : grid0.Coords) (x2 : Vec F S1x24x128x128 .fp8e4m3) (x3 x4 : Vec F S1x64x48x128 .bf16) (x5 : Vec F S64x24x128 .f32)
    (x6 : Vec F S1x64x128 .f32) (x8 : Vec F S1x24x128x256 .f32) (x9 : Vec F S1x256 .f32) (x13 : Vec F S24x128x256 .f32) : Fin 24 → FVec F S64x256 .f32 :=
  headOutput x2 x3 x4 x5 (iota .tc S64x128 32 [1] iota_S64x128_d1_w32) (k0_pay229 x6) x9 (stateBefore i x8 x13)

/-- How many powers of two are at most each step's largest output over 448. -/
def countOf (top : FVec F S64x128 .f32) : IVec S64x128 32 := Scf.fold (n := k0_t2_loop.trips) (fun k acc => k0_pay236 top k acc) k0_pay235

/-- The chunk's codes and its scales. -/
def codesOf (y : Fin 24 → FVec F S64x256 .f32) : Vec F S1x64x48x128 .fp8e4m3 :=
  k0_pay2 (k0_pay237 (countOf (topUpto y 24))) k0_pay239 (chunkOutput y)
def scalesOf (y : Fin 24 → FVec F S64x256 .f32) : Vec F S1x1x1x64 .f32 := k0_pay1 (k0_pay238 (countOf (topUpto y 24)))

/-- After the last trip every head's outputs are stored. -/
theorem output_done {y : Fin 24 → FVec F S64x256 .f32} {now : Vec F S3072x128 .f32}
    (h : OutputAt y (Scf.trips k0_t1_loop.lb k0_t1_loop.ub k0_t1_loop.st) now) : now = chunkOutput y := by
  funext x
  have h3 : Scf.trips k0_t1_loop.lb k0_t1_loop.ub k0_t1_loop.st = 3 := by decide
  refine h x ?_
  rw [h3]; omega

theorem top_done (y : Fin 24 → FVec F S64x256 .f32) : topUpto y (8 * Scf.trips k0_t1_loop.lb k0_t1_loop.ub k0_t1_loop.st) = topUpto y 24 := by
  have h3 : Scf.trips k0_t1_loop.lb k0_t1_loop.ub k0_t1_loop.st = 3 := by decide
  rw [h3]

/-- What is stored of the codes and of the scales after the last trip. -/
theorem codes_done {y y' : Fin 24 → FVec F S64x256 .f32} {now : Vec F S3072x128 .f32}
    (h : OutputAt y (Scf.trips k0_t1_loop.lb k0_t1_loop.ub k0_t1_loop.st) now) (e : y = y') :
    k0_pay2 (k0_pay237 (countOf (topUpto y (8 * Scf.trips k0_t1_loop.lb k0_t1_loop.ub k0_t1_loop.st)))) k0_pay239 now = codesOf y' := by
  rw [output_done h, top_done, e]; rfl

theorem scales_done {y y' : Fin 24 → FVec F S64x256 .f32} (e : y = y') :
    k0_pay1 (k0_pay238 (countOf (topUpto y (8 * Scf.trips k0_t1_loop.lb k0_t1_loop.ub k0_t1_loop.st)))) = scalesOf y' := by
  rw [top_done, e]; rfl

/-- The body at any point of the grid: it runs, hands every input back as it found it, leaves the state, the codes,
    the scales and the block of final states at what the chunk computes. -/
theorem body_exact (𝒱 : Variants) (c : Dev nD) (bd : Option 𝒱.V) (E : Set ℕ) (i : grid0.Coords)
    (arg2 : Memref sig .tc .vmem S1x24x128x128 .fp8e4m3) (harg2 : arg2.IsWhole)
    (arg3 : Memref sig .tc .vmem S1x64x48x128 .bf16) (harg3 : arg3.IsWhole)
    (arg4 : Memref sig .tc .vmem S1x64x48x128 .bf16) (harg4 : arg4.IsWhole)
    (arg5 : Memref sig .tc .vmem S64x24x128 .f32) (harg5 : arg5.IsWhole)
    (arg6 : Memref sig .tc .vmem S1x64x128 .f32) (harg6 : arg6.IsWhole)
    (arg7 : Memref sig .tc .vmem S24x128 .f32) (harg7 : arg7.IsWhole)
    (arg8 : Memref sig .tc .vmem S1x24x128x256 .f32) (harg8 : arg8.IsWhole)
    (arg9 : Memref sig .tc .vmem S1x256 .f32) (harg9 : arg9.IsWhole)
    (arg10 : Memref sig .tc .vmem S1x64x48x128 .fp8e4m3) (harg10 : arg10.IsWhole)
    (arg11 : Memref sig .tc .vmem S1x1x1x64 .f32) (harg11 : arg11.IsWhole)
    (arg12 : Memref sig .tc .vmem S1x24x128x256 .f32) (harg12 : arg12.IsWhole)
    (arg13 : Memref sig .tc .vmem S24x128x256 .f32) (harg13 : arg13.IsWhole)
    (arg14 : Memref sig .tc .vmem S3072x128 .f32) (harg14 : arg14.IsWhole)
    (x2 : S1x24x128x128.Idx → Elt F .fp8e4m3) (x3 : S1x64x48x128.Idx → Elt F .bf16) (x4 : S1x64x48x128.Idx → Elt F .bf16) (x5 : S64x24x128.Idx → Elt F .f32) (x6 : S1x64x128.Idx → Elt F .f32) (x7 : S24x128.Idx → Elt F .f32) (x8 : S1x24x128x256.Idx → Elt F .f32) (x9 : S1x256.Idx → Elt F .f32) (x12 : S1x24x128x256.Idx → Elt F .f32) (x13 : S24x128x256.Idx → Elt F .f32) (Kt : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9
      ∗ (∃ x, owns (c : Thread nD τ) arg10 fullShare x) ∗ (∃ x, owns (c : Thread nD τ) arg11 fullShare x) ∗ owns (c : Thread nD τ) arg12 fullShare x12 ∗ owns (c : Thread nD τ) arg13 fullShare x13 ∗ (∃ x, owns (c : Thread nD τ) arg14 fullShare x)
      ∗ (owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9
        ∗ owns (c : Thread nD τ) arg10 fullShare (codesOf (outputsAfter i x2 x3 x4 x5 x6 x8 x9 x13)) ∗ owns (c : Thread nD τ) arg11 fullShare (scalesOf (outputsAfter i x2 x3 x4 x5 x6 x8 x9 x13)) ∗ owns (c : Thread nD τ) arg12 fullShare (resultAfter i x2 x3 x5 x6 x7 x8 x12 x13) ∗ owns (c : Thread nD τ) arg13 fullShare (stateAfter i x2 x3 x5 x6 x7 x8 x13) ∗ (∃ x, owns (c : Thread nD τ) arg14 fullShare x) -∗ Kt ⟨⟩))
    ⊢ wp frame (wpE (defs₀ (F := F)) 𝒱 (c : Thread nD τ) bd) E (cc0_recur (F := F) i arg2 harg2 arg3 harg3 arg4 harg4 arg5 harg5 arg6 harg6 arg7 harg7 arg8 harg8 arg9 harg9 arg10 harg10 arg11 harg11 arg12 harg12 arg13 harg13 arg14 harg14) Kt := by
  simp only [cc0_recur_eq_skeleton]
  unfold cc0_recur_skel
  simp only [k0_part41_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%x10, %f10, %hf10, H10⟩, ⟨%x11, %f11, %hf11, H11⟩, ⟨%f12, %hf12, H12⟩, ⟨%f13, %hf13, H13⟩, ⟨%x14, %f14, %hf14, H14⟩, Hk⟩
  subst hf2 hf3 hf4 hf5 hf6 hf7 hf8 hf9 hf12 hf13
  by_cases hc0 : AtFirst i
  · have hS : StateAt (arg2.view.read (Elt F) f2) (arg3.view.read (Elt F) f3) (arg5.view.read (Elt F) f5)
      (iota .tc S64x128 32 [1] iota_S64x128_d1_w32) (k0_pay229 (arg6.view.readAt (Elt F) (Rect.unit (s := S1x64x128) ![0, 0, 0] S1x64x128.size inb_S1x64x128_S1x64x128_0_0_0).toLoadRect f6)) (arg7.view.read (Elt F) f7)
      (k0_pay227 (arg8.view.read (Elt F) f8)) 0 (arg13.view.read (Elt F) (arg13.view.writes (Elt F) arg13.view.junk [⟨Rect.unit (s := S24x128x256) ![0, 0, 0] S24x128x256.size inb_S24x128x256_S24x128x256_0_0_0, k0_pay227 (arg8.view.readAt (Elt F) (Rect.unit (s := S1x24x128x256) ![0, 0, 0, 0] S1x24x128x256.size inb_S1x24x128x256_S1x24x128x256_0_0_0_0).toLoadRect f8)⟩])) := fun x => by
      rw [View.read_writes_full, View.readAt_full]; simp
    have hO : OutputAt (headOutput (arg2.view.read (Elt F) f2) (arg3.view.read (Elt F) f3) (arg4.view.read (Elt F) f4) (arg5.view.read (Elt F) f5) (iota .tc S64x128 32 [1] iota_S64x128_d1_w32) (k0_pay229 (arg6.view.readAt (Elt F) (Rect.unit (s := S1x64x128) ![0, 0, 0] S1x64x128.size inb_S1x64x128_S1x64x128_0_0_0).toLoadRect f6)) (arg9.view.read (Elt F) f9) (k0_pay227 (arg8.view.read (Elt F) f8))) 0 (arg14.view.read (Elt F) f14) := fun x h => absurd h (by omega)
    have hA : k0_pay230 = topUpto (headOutput (arg2.view.read (Elt F) f2) (arg3.view.read (Elt F) f3) (arg4.view.read (Elt F) f4) (arg5.view.read (Elt F) f5) (iota .tc S64x128 32 [1] iota_S64x128_d1_w32) (k0_pay229 (arg6.view.readAt (Elt F) (Rect.unit (s := S1x64x128) ![0, 0, 0] S1x64x128.size inb_S1x64x128_S1x64x128_0_0_0).toLoadRect f6)) (arg9.view.read (Elt F) f9) (k0_pay227 (arg8.view.read (Elt F) f8))) (8 * 0) := rfl
    have hy : (headOutput (arg2.view.read (Elt F) f2) (arg3.view.read (Elt F) f3) (arg4.view.read (Elt F) f4) (arg5.view.read (Elt F) f5) (iota .tc S64x128 32 [1] iota_S64x128_d1_w32) (k0_pay229 (arg6.view.readAt (Elt F) (Rect.unit (s := S1x64x128) ![0, 0, 0] S1x64x128.size inb_S1x64x128_S1x64x128_0_0_0).toLoadRect f6)) (arg9.view.read (Elt F) f9) (k0_pay227 (arg8.view.read (Elt F) f8))) = outputsAfter i (arg2.view.read (Elt F) f2) (arg3.view.read (Elt F) f3) (arg4.view.read (Elt F) f4) (arg5.view.read (Elt F) f5)
        (arg6.view.read (Elt F) f6) (arg8.view.read (Elt F) f8) (arg9.view.read (Elt F) f9) (arg13.view.read (Elt F) f13) := by
      rw [View.readAt_full, outputsAfter, stateBefore, if_pos hc0]
    let L := exactLoop (F := F) 𝒱 c bd E i arg2 harg2 arg3 harg3 arg4 harg4 arg5 harg5 arg6 harg6 arg7 harg7 arg8 harg8 arg9 harg9 arg10 harg10 arg11 harg11 arg12 harg12 arg13 harg13 arg14 harg14 (iota .tc S64x128 32 [1] iota_S64x128_d1_w32) (arg6.view.readAt (Elt F) (Rect.unit (s := S1x64x128) ![0, 0, 0] S1x64x128.size inb_S1x64x128_S1x64x128_0_0_0).toLoadRect f6) (k0_pay227 (arg8.view.read (Elt F) f8)) f2 f3 f4 f5 f7 f9 k0_pay230
    by_cases hc1 : AtLast i
    · sl_exec (disch := first | sl_exact hc0 | sl_exact hc1)
      sl_step
      have h13 := state_done (i := i) (x8 := arg8.view.read (Elt F) f8) (x13 := arg13.view.read (Elt F) f13) (by assumption) (by simp [stateBefore, hc0])
      iapply Hk
      isplitl [H2]; · iexists _; isplitr; (· ipureintro; rfl); iexact H2
      isplitl [H3]; · iexists _; isplitr; (· ipureintro; rfl); iexact H3
      isplitl [H4]; · iexists _; isplitr; (· ipureintro; rfl); iexact H4
      isplitl [H5]; · iexists _; isplitr; (· ipureintro; rfl); iexact H5
      isplitl [H6]; · iexists _; isplitr; (· ipureintro; rfl); iexact H6
      isplitl [H7]; · iexists _; isplitr; (· ipureintro; rfl); iexact H7
      isplitl [H8]; · iexists _; isplitr; (· ipureintro; rfl); iexact H8
      isplitl [H9]; · iexists _; isplitr; (· ipureintro; rfl); iexact H9
      isplitl [H10]
      · iexists _
        isplitr
        rotate_left
        · iexact H10
        · ipureintro
          refine (View.read_writes_full _ _ _ _ _).trans ?_
          refine (congrArg (k0_pay2 _ _) (View.readAt_full _ _ _)).trans ?_
          exact codes_done (by assumption) hy
      isplitl [H11]
      · iexists _
        isplitr
        rotate_left
        · iexact H11
        · ipureintro
          refine (View.read_writes_full _ _ _ _ _).trans ?_
          exact scales_done hy
      isplitl [H12]
      · iexists _
        isplitr
        rotate_left
        · iexact H12
        · ipureintro
          rw [View.readAt_full] at h13; rw [View.read_writes_full, resultAfter, if_pos hc1, View.readAt_full, h13]
      isplitl [H13]
      · iexists _
        isplitr
        · ipureintro; rw [View.readAt_full] at h13; exact h13
        iexact H13
      iapply (held_any (F := F) c arg14 _); iexact H14

    · sl_exec (disch := first | sl_exact hc0 | sl_exact hc1)
      sl_step
      have h13 := state_done (i := i) (x8 := arg8.view.read (Elt F) f8) (x13 := arg13.view.read (Elt F) f13) (by assumption) (by simp [stateBefore, hc0])
      iapply Hk
      isplitl [H2]; · iexists _; isplitr; (· ipureintro; rfl); iexact H2
      isplitl [H3]; · iexists _; isplitr; (· ipureintro; rfl); iexact H3
      isplitl [H4]; · iexists _; isplitr; (· ipureintro; rfl); iexact H4
      isplitl [H5]; · iexists _; isplitr; (· ipureintro; rfl); iexact H5
      isplitl [H6]; · iexists _; isplitr; (· ipureintro; rfl); iexact H6
      isplitl [H7]; · iexists _; isplitr; (· ipureintro; rfl); iexact H7
      isplitl [H8]; · iexists _; isplitr; (· ipureintro; rfl); iexact H8
      isplitl [H9]; · iexists _; isplitr; (· ipureintro; rfl); iexact H9
      isplitl [H10]
      · iexists _
        isplitr
        rotate_left
        · iexact H10
        · ipureintro
          refine (View.read_writes_full _ _ _ _ _).trans ?_
          refine (congrArg (k0_pay2 _ _) (View.readAt_full _ _ _)).trans ?_
          exact codes_done (by assumption) hy
      isplitl [H11]
      · iexists _
        isplitr
        rotate_left
        · iexact H11
        · ipureintro
          refine (View.read_writes_full _ _ _ _ _).trans ?_
          exact scales_done hy
      isplitl [H12]
      · iexists _
        isplitr
        rotate_left
        · iexact H12
        · ipureintro
          rw [resultAfter, if_neg hc1]
      isplitl [H13]
      · iexists _
        isplitr
        · ipureintro; rw [View.readAt_full] at h13; exact h13
        iexact H13
      iapply (held_any (F := F) c arg14 _); iexact H14

  · have hS : StateAt (arg2.view.read (Elt F) f2) (arg3.view.read (Elt F) f3) (arg5.view.read (Elt F) f5)
      (iota .tc S64x128 32 [1] iota_S64x128_d1_w32) (k0_pay229 (arg6.view.readAt (Elt F) (Rect.unit (s := S1x64x128) ![0, 0, 0] S1x64x128.size inb_S1x64x128_S1x64x128_0_0_0).toLoadRect f6)) (arg7.view.read (Elt F) f7)
      (arg13.view.read (Elt F) f13) 0 (arg13.view.read (Elt F) f13) := fun x => by
      simp
    have hO : OutputAt (headOutput (arg2.view.read (Elt F) f2) (arg3.view.read (Elt F) f3) (arg4.view.read (Elt F) f4) (arg5.view.read (Elt F) f5) (iota .tc S64x128 32 [1] iota_S64x128_d1_w32) (k0_pay229 (arg6.view.readAt (Elt F) (Rect.unit (s := S1x64x128) ![0, 0, 0] S1x64x128.size inb_S1x64x128_S1x64x128_0_0_0).toLoadRect f6)) (arg9.view.read (Elt F) f9) (arg13.view.read (Elt F) f13)) 0 (arg14.view.read (Elt F) f14) := fun x h => absurd h (by omega)
    have hA : k0_pay230 = topUpto (headOutput (arg2.view.read (Elt F) f2) (arg3.view.read (Elt F) f3) (arg4.view.read (Elt F) f4) (arg5.view.read (Elt F) f5) (iota .tc S64x128 32 [1] iota_S64x128_d1_w32) (k0_pay229 (arg6.view.readAt (Elt F) (Rect.unit (s := S1x64x128) ![0, 0, 0] S1x64x128.size inb_S1x64x128_S1x64x128_0_0_0).toLoadRect f6)) (arg9.view.read (Elt F) f9) (arg13.view.read (Elt F) f13)) (8 * 0) := rfl
    have hy : (headOutput (arg2.view.read (Elt F) f2) (arg3.view.read (Elt F) f3) (arg4.view.read (Elt F) f4) (arg5.view.read (Elt F) f5) (iota .tc S64x128 32 [1] iota_S64x128_d1_w32) (k0_pay229 (arg6.view.readAt (Elt F) (Rect.unit (s := S1x64x128) ![0, 0, 0] S1x64x128.size inb_S1x64x128_S1x64x128_0_0_0).toLoadRect f6)) (arg9.view.read (Elt F) f9) (arg13.view.read (Elt F) f13)) = outputsAfter i (arg2.view.read (Elt F) f2) (arg3.view.read (Elt F) f3) (arg4.view.read (Elt F) f4) (arg5.view.read (Elt F) f5)
        (arg6.view.read (Elt F) f6) (arg8.view.read (Elt F) f8) (arg9.view.read (Elt F) f9) (arg13.view.read (Elt F) f13) := by
      rw [View.readAt_full, outputsAfter, stateBefore, if_neg hc0]
    let L := exactLoop (F := F) 𝒱 c bd E i arg2 harg2 arg3 harg3 arg4 harg4 arg5 harg5 arg6 harg6 arg7 harg7 arg8 harg8 arg9 harg9 arg10 harg10 arg11 harg11 arg12 harg12 arg13 harg13 arg14 harg14 (iota .tc S64x128 32 [1] iota_S64x128_d1_w32) (arg6.view.readAt (Elt F) (Rect.unit (s := S1x64x128) ![0, 0, 0] S1x64x128.size inb_S1x64x128_S1x64x128_0_0_0).toLoadRect f6) (arg13.view.read (Elt F) f13) f2 f3 f4 f5 f7 f9 k0_pay230
    by_cases hc1 : AtLast i
    · sl_exec (disch := first | sl_exact hc0 | sl_exact hc1)
      sl_step
      have h13 := state_done (i := i) (x8 := arg8.view.read (Elt F) f8) (x13 := arg13.view.read (Elt F) f13) (by assumption) (by simp [stateBefore, hc0])
      iapply Hk
      isplitl [H2]; · iexists _; isplitr; (· ipureintro; rfl); iexact H2
      isplitl [H3]; · iexists _; isplitr; (· ipureintro; rfl); iexact H3
      isplitl [H4]; · iexists _; isplitr; (· ipureintro; rfl); iexact H4
      isplitl [H5]; · iexists _; isplitr; (· ipureintro; rfl); iexact H5
      isplitl [H6]; · iexists _; isplitr; (· ipureintro; rfl); iexact H6
      isplitl [H7]; · iexists _; isplitr; (· ipureintro; rfl); iexact H7
      isplitl [H8]; · iexists _; isplitr; (· ipureintro; rfl); iexact H8
      isplitl [H9]; · iexists _; isplitr; (· ipureintro; rfl); iexact H9
      isplitl [H10]
      · iexists _
        isplitr
        rotate_left
        · iexact H10
        · ipureintro
          refine (View.read_writes_full _ _ _ _ _).trans ?_
          refine (congrArg (k0_pay2 _ _) (View.readAt_full _ _ _)).trans ?_
          exact codes_done (by assumption) hy
      isplitl [H11]
      · iexists _
        isplitr
        rotate_left
        · iexact H11
        · ipureintro
          refine (View.read_writes_full _ _ _ _ _).trans ?_
          exact scales_done hy
      isplitl [H12]
      · iexists _
        isplitr
        rotate_left
        · iexact H12
        · ipureintro
          rw [View.readAt_full] at h13; rw [View.read_writes_full, resultAfter, if_pos hc1, View.readAt_full, h13]
      isplitl [H13]
      · iexists _
        isplitr
        · ipureintro; rw [View.readAt_full] at h13; exact h13
        iexact H13
      iapply (held_any (F := F) c arg14 _); iexact H14

    · sl_exec (disch := first | sl_exact hc0 | sl_exact hc1)
      sl_step
      have h13 := state_done (i := i) (x8 := arg8.view.read (Elt F) f8) (x13 := arg13.view.read (Elt F) f13) (by assumption) (by simp [stateBefore, hc0])
      iapply Hk
      isplitl [H2]; · iexists _; isplitr; (· ipureintro; rfl); iexact H2
      isplitl [H3]; · iexists _; isplitr; (· ipureintro; rfl); iexact H3
      isplitl [H4]; · iexists _; isplitr; (· ipureintro; rfl); iexact H4
      isplitl [H5]; · iexists _; isplitr; (· ipureintro; rfl); iexact H5
      isplitl [H6]; · iexists _; isplitr; (· ipureintro; rfl); iexact H6
      isplitl [H7]; · iexists _; isplitr; (· ipureintro; rfl); iexact H7
      isplitl [H8]; · iexists _; isplitr; (· ipureintro; rfl); iexact H8
      isplitl [H9]; · iexists _; isplitr; (· ipureintro; rfl); iexact H9
      isplitl [H10]
      · iexists _
        isplitr
        rotate_left
        · iexact H10
        · ipureintro
          refine (View.read_writes_full _ _ _ _ _).trans ?_
          refine (congrArg (k0_pay2 _ _) (View.readAt_full _ _ _)).trans ?_
          exact codes_done (by assumption) hy
      isplitl [H11]
      · iexists _
        isplitr
        rotate_left
        · iexact H11
        · ipureintro
          refine (View.read_writes_full _ _ _ _ _).trans ?_
          exact scales_done hy
      isplitl [H12]
      · iexists _
        isplitr
        rotate_left
        · iexact H12
        · ipureintro
          rw [resultAfter, if_neg hc1]
      isplitl [H13]
      · iexists _
        isplitr
        · ipureintro; rw [View.readAt_full] at h13; exact h13
        iexact H13
      iapply (held_any (F := F) c arg14 _); iexact H14

end Cert.Proof.KernelIdeal

end
-- ==== Proof.KernelIdeal.Scales.lean ====
module

public import proofs.«01_k».proof.Proof.KernelIdeal.Body
public import proofs.«01_k».proof.Proof.Quantise
public import proofs.«01_k».proof.Proof.Sums

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic

/-! The scales of a chunk whose outputs are finite. -/

theorem lowest : Ideal.ofBits .f32 4286578688#32 = ⊥ := by
  simp [Ideal.ofBits, Ideal.ieee]

/-- The largest output over the heads before `n` is at most `c` exactly where all of them are. -/
theorem topUpto_le (y : Fin 24 → FVec Ideal S64x256 .f32) (Y : Fin 24 → Fin 64 → Fin 256 → ℝ) (hy : ∀ h r v, y h (ix2 r v) = ((Y h r v : ℝ) : EReal))
    (r : Fin 64) (l : Fin 128) (c : EReal) : (n : ℕ) → n ≤ 24 → (topUpto y n (ix2 r l) ≤ c ↔ 0 ≤ c ∧ ∀ h : Fin 24, h.val < n →
      ((|Y h r ⟨l.val, by omega⟩| : ℝ) : EReal) ≤ c ∧ ((|Y h r ⟨128 + l.val, by omega⟩| : ℝ) : EReal) ≤ c)
  | 0, _ => by
    have e : topUpto y 0 (ix2 r l) = 0 := by unfold topUpto k0_pay230; pointwise
    rw [e]
    exact ⟨fun h => ⟨h, fun _ hn => absurd hn (Nat.not_lt_zero _)⟩, fun h => h.1⟩
  | n + 1, hn => by
    have ih := topUpto_le y Y hy r l c n (by omega)
    rw [topUpto_succ y n (by omega)]
    pointwise
    simp only [hy, absf_coe, max_le_iff, ih]
    constructor
    · rintro ⟨⟨h0, h1⟩, h2⟩
      refine ⟨h0, fun h hh => ?_⟩
      by_cases e : h.val = n
      · rw [show h = ⟨n, by omega⟩ from Fin.ext e]
        exact h2
      · exact h1 h (by omega)
    · rintro ⟨h0, h1⟩
      exact ⟨⟨h0, fun h hh => h1 h (by omega)⟩, h1 ⟨n, by omega⟩ (Nat.lt_succ_self n)⟩

/-- The largest over all heads and lanes, as the comparisons with the powers of two read it. -/
theorem rowTop_at (y : Fin 24 → FVec Ideal S64x256 .f32) (Y : Fin 24 → Fin 64 → Fin 256 → ℝ) (hy : ∀ h r v, y h (ix2 r v) = ((Y h r v : ℝ) : EReal)) (r : Fin 64) :
    Finset.fold max (Ideal.ofBits .f32 4286578688#32) (fun l : Fin 128 => topUpto y 24 (ix2 r l)) Finset.univ
      = ((largest (fun h v => Y h r v) : ℝ) : EReal) := by
  refine eq_largest _ _ fun c => ?_
  rw [Finset.fold_max_le, lowest]
  simp only [topUpto_le y Y hy r _ c 24 (le_refl _)]
  constructor
  · rintro ⟨-, h⟩ g v
    by_cases hv : v.val < 128
    · exact ((h ⟨v.val, hv⟩ (Finset.mem_univ _)).2 g g.isLt).1
    · have := v.isLt
      have e := ((h ⟨v.val - 128, by omega⟩ (Finset.mem_univ _)).2 g g.isLt).2
      rwa [show (⟨128 + (v.val - 128), by omega⟩ : Fin 256) = v from Fin.ext (by simp only; omega)] at e
  · intro h
    refine ⟨bot_le, fun l _ => ⟨?_, fun g _ => ⟨h g _, h g _⟩⟩⟩
    exact (EReal.coe_nonneg.mpr (abs_nonneg _)).trans (h 0 0)

theorem trips_count : k0_t2_loop.trips = 255 := by decide +kernel

theorem power_word : ∀ k : Fin k0_t2_loop.trips, Scalar.shli (Scf.iv 1#32 1#32 k) 23#32 = BitVec.ofNat 32 ((k.val + 1) * 8388608) := by decide +kernel

/-- The comparison with the word of an exponent; the word of the last one is infinite. -/
theorem word_le {x : ℝ} (hs : x < 2 ^ (126 : ℤ)) (k : ℕ) (hk : k < 255) :
    (Ideal.ofBits .f32 (BitVec.ofNat 32 ((k + 1) * 8388608)) ≤ (x : EReal)) ↔ (2 : ℝ) ^ ((k : ℤ) + 1 - 127) ≤ x := by
  by_cases h : k = 254
  · subst h
    have e : Ideal.ofBits .f32 (BitVec.ofNat 32 ((254 + 1) * 8388608)) = ⊤ := by
      rw [show BitVec.ofNat 32 ((254 + 1) * 8388608) = 0x7F800000#32 by decide]
      simp [Ideal.ofBits, Ideal.ieee]
    rw [e]
    refine ⟨fun h => absurd h (not_le.mpr (EReal.coe_lt_top x)), fun h => absurd (hs.trans_le ?_) (lt_irrefl x)⟩
    refine le_trans ?_ h
    exact zpow_le_zpow_right₀ (one_le_two) (by norm_num)
  · rw [word_pow (k + 1) (by omega) (by omega), EReal.coe_le_coe_iff]
    rw [show ((k + 1 : ℕ) : ℤ) - 127 = (k : ℤ) + 1 - 127 by push_cast; rfl]

/-- The comparisons passed so far. -/
theorem count_step (top : FVec Ideal S64x128 .f32) (x : ℝ) (hs : x < 2 ^ (126 : ℤ)) (r : Fin 64) (l : Fin 128)
    (hx : Finset.fold max (Ideal.ofBits .f32 4286578688#32) (fun l : Fin 128 => top (ix2 r l)) Finset.univ * Ideal.ofBits .f32 991054117#32 = (x : EReal)) :
    (L : List (Fin k0_t2_loop.trips)) → (init : IVec S64x128 32) →
      L.foldl (fun acc k => k0_pay236 top k acc) init (ix2 r l)
        = init (ix2 r l) + BitVec.ofNat 32 (L.map fun k => if (2 : ℝ) ^ ((k.val : ℤ) + 1 - 127) ≤ x then 1 else 0).sum
  | [], init => by simp
  | k :: L, init => by
    have hk : k.val < 255 := Nat.lt_of_lt_of_eq k.isLt trips_count
    rw [List.foldl_cons, count_step top x hs r l hx L, List.map_cons, List.sum_cons, BitVec.ofNat_add, ← BitVec.add_assoc]
    refine congrArg (fun z => z + _) ?_
    have e : k0_pay236 top k init (ix2 r l) = IntOp.addi (init (ix2 r l)) (if Ideal.ofBits .f32 (Scalar.shli (Scf.iv 1#32 1#32 k) 23#32)
        ≤ Finset.fold max (Ideal.ofBits .f32 4286578688#32) (fun l : Fin 128 => top (ix2 r l)) Finset.univ * Ideal.ofBits .f32 991054117#32 then 1#32 else 0#32) := by
      unfold k0_pay236; pointwise
    rw [e, hx, power_word]
    simp only [word_le hs k.val hk]
    by_cases h : (2 : ℝ) ^ ((k.val : ℤ) + 1 - 127) ≤ x
    · simp only [if_pos h]; rfl
    · simp only [if_neg h]; rfl

/-- The count of comparisons passed. -/
theorem countOf_at (top : FVec Ideal S64x128 .f32) (x : ℝ) (hs : x < 2 ^ (126 : ℤ)) (r : Fin 64) (l : Fin 128)
    (hx : Finset.fold max (Ideal.ofBits .f32 4286578688#32) (fun l : Fin 128 => top (ix2 r l)) Finset.univ * Ideal.ofBits .f32 991054117#32 = (x : EReal)) :
    countOf top (ix2 r l) = BitVec.ofNat 32 (countAt x) := by
  have e0 : (k0_pay235 : IVec S64x128 32) (ix2 r l) = 0#32 := by unfold k0_pay235; pointwise
  unfold countOf
  rw [Scf.fold_eq, count_step top x hs r l hx, e0, BitVec.zero_add]
  refine congrArg (BitVec.ofNat 32) ?_
  rw [← Fin.sum_univ_def]
  unfold countAt
  rw [Finset.card_filter]
  exact (Fin.sum_congr' (fun k : Fin 255 => if (2 : ℝ) ^ ((k.val : ℤ) + 1 - 127) ≤ x then 1 else 0) trips_count)

theorem scale_bits : ∀ c : Fin 256, IntOp.shli ArithUnit.vector (IntOp.addi 127#32 (Scalar.select (IntOp.cmpi .eq (BitVec.ofNat 32 c.val) 0#32) 0#32
    (IntOp.subi (BitVec.ofNat 32 c.val) 126#32))) 23#32 = BitVec.ofNat 32 ((if c.val = 0 then 127 else c.val + 1) * 8388608) := by decide +kernel

theorem countAt_lt (x : ℝ) : countAt x < 256 :=
  Nat.lt_succ_of_le ((Finset.card_le_univ _).trans (by simp))

/-- The scales of a chunk's outputs. -/
theorem scalesOf_at (y : Fin 24 → FVec Ideal S64x256 .f32) (Y : Fin 24 → Fin 64 → Fin 256 → ℝ) (hy : ∀ h r v, y h (ix2 r v) = ((Y h r v : ℝ) : EReal)) (r : Fin 64)
    (hs : largest (fun h v => Y h r v) * perTop < 2 ^ (126 : ℤ)) :
    scalesOf y (ix4 0 0 0 r) = ((scaleOf (largest (fun h v => Y h r v) * perTop) : ℝ) : EReal) := by
  have hx : Finset.fold max (Ideal.ofBits .f32 4286578688#32) (fun l : Fin 128 => topUpto y 24 (ix2 r l)) Finset.univ * Ideal.ofBits .f32 991054117#32
      = ((largest (fun h v => Y h r v) * perTop : ℝ) : EReal) := by
    rw [rowTop_at y Y hy r, perTop_coe, ← EReal.coe_mul]
  have e : ∀ acc : IVec S64x128 32, k0_pay1 (F := Ideal) (k0_pay238 acc) (ix4 0 0 0 r) = Ideal.ofBits .f32 (IntOp.shli ArithUnit.vector (IntOp.addi 127#32
      (Scalar.select (IntOp.cmpi .eq (acc (ix2 r 0)) 0#32) 0#32 (IntOp.subi (acc (ix2 r 0)) 126#32))) 23#32) := by
    intro acc; unfold k0_pay1 k0_pay238 k0_pay237; pointwise
  unfold scalesOf
  rw [e, countOf_at _ _ hs r 0 hx, scale_bits ⟨_, countAt_lt _⟩]
  exact scale_word hs _ rfl

end Cert.Proof.KernelIdeal

end
-- ==== Proof.KernelIdeal.Frame.lean ====
module

public import proofs.«01_k».proof.Proof.KernelIdeal.Body
public import proofs.«01_k».proof.Proof.Gen.KernelIdeal.Frame

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every array is named. -/
def outputs : Fin 11 → Bool := fun _ => false

/-- A chunk is a batch's first one where its number is a multiple of ten. -/
theorem atFirst_iff : ∀ t : Fin cfg0.N, AtFirst (grid0.coords t) ↔ t.val % 10 = 0 :=
  (fun t => by
    have ht : t.val < 20 := Nat.lt_of_lt_of_eq t.isLt N_0
    have e1 : (grid0.coords t 1).val = t.val / 1 % 10 := Pipeline.Grid.coords_val t 1 (by decide) rfl
    simp only [AtFirst, e1]
    word_cmp
   : ∀ t : Fin grid0.N, AtFirst (grid0.coords t) ↔ t.val % 10 = 0)

/-- Where a chunk is not a batch's last one, the block of final states is not written back. -/
theorem idle_of_not_last : ∀ t : Fin cfg0.N, ¬AtLast (grid0.coords t) → cfg0.idle 10 (grid0.coords t) = true ∧ (cfg0.win 10).flush t = false := by
  decide +kernel

/-- At a batch's last chunk the block of final states is stored. -/
theorem live_of_last : ∀ t : Fin cfg0.N, AtLast (grid0.coords t) → cfg0.idle 10 (grid0.coords t) = false := by decide +kernel

/-- A batch's last chunk is the one whose number ends in nine. -/
theorem atLast_of : ∀ t : Fin cfg0.N, t.val % 10 = 9 → AtLast (grid0.coords t) := by decide +kernel

/-- The blocks of codes and scales are stored at every chunk. -/
theorem live_codes : ∀ t : Fin cfg0.N, cfg0.idle 8 (grid0.coords t) = false := by decide +kernel
theorem live_scales : ∀ t : Fin cfg0.N, cfg0.idle 9 (grid0.coords t) = false := by decide +kernel

/-- At a batch's first chunk what the state held before does not matter. -/
theorem stateBefore_first {i : grid0.Coords} (h : AtFirst i) (x8 : Vec F S1x24x128x256 .f32) (d d' : Vec F S24x128x256 .f32) :
    stateBefore i x8 d = stateBefore i x8 d' := by
  simp only [stateBefore, if_pos h]

/-- The state after chunk `n`. -/
def stateOut (c : Dev nD) : (n : ℕ) → n < cfg0.N → Vec F S24x128x256 .f32
  | 0, h => stateAfter (grid0.coords ⟨0, h⟩) (iblk m c 0 ⟨0, h⟩) (iblk m c 1 ⟨0, h⟩) (iblk m c 3 ⟨0, h⟩) (iblk m c 4 ⟨0, h⟩) (iblk m c 5 ⟨0, h⟩) (iblk m c 6 ⟨0, h⟩) (k0_pay227 (iblk m c 6 ⟨0, h⟩))
  | n + 1, h => stateAfter (grid0.coords ⟨n + 1, h⟩) (iblk m c 0 ⟨n + 1, h⟩) (iblk m c 1 ⟨n + 1, h⟩) (iblk m c 3 ⟨n + 1, h⟩) (iblk m c 4 ⟨n + 1, h⟩) (iblk m c 5 ⟨n + 1, h⟩) (iblk m c 6 ⟨n + 1, h⟩) (stateOut c n (Nat.lt_of_succ_lt h))

/-- The state chunk `n` finds in the scratch. -/
def stateIn (c : Dev nD) : (n : ℕ) → n < cfg0.N → Vec F S24x128x256 .f32
  | 0, h => k0_pay227 (iblk m c 6 ⟨0, h⟩)
  | n + 1, h => stateOut m c n (Nat.lt_of_succ_lt h)

theorem stateOut_of_in (c : Dev nD) : (n : ℕ) → (h : n < cfg0.N) →
    stateOut m c n h = stateAfter (grid0.coords ⟨n, h⟩) (iblk m c 0 ⟨n, h⟩) (iblk m c 1 ⟨n, h⟩) (iblk m c 3 ⟨n, h⟩) (iblk m c 4 ⟨n, h⟩) (iblk m c 5 ⟨n, h⟩) (iblk m c 6 ⟨n, h⟩) (stateIn m c n h)
  | 0, h => rfl
  | n + 1, h => rfl

/-- The outputs of chunk `n` before they are quantised. -/
def outputsOut (c : Dev nD) (n : ℕ) (h : n < cfg0.N) : Fin 24 → FVec F S64x256 .f32 :=
  outputsAfter (grid0.coords ⟨n, h⟩) (iblk m c 0 ⟨n, h⟩) (iblk m c 1 ⟨n, h⟩) (iblk m c 2 ⟨n, h⟩) (iblk m c 3 ⟨n, h⟩) (iblk m c 4 ⟨n, h⟩) (iblk m c 6 ⟨n, h⟩) (iblk m c 7 ⟨n, h⟩) (stateIn m c n h)

/-- The state and the packed outputs are scratch held at some contents between points. -/
theorem scratch_eq (c : Dev nD) :
    (Pipeline.ΦA spec0 c : sProp 𝕄)
      = iprop(iprop((∃ d, owns (c : Thread nD τ) (Memref.whole cc0_scratch0) fullShare d)
        ∗ (∃ d, owns (c : Thread nD τ) (Memref.whole cc0_scratch1) fullShare d)) ∗ (∃ r, prngReg c r)) := by
  unfold Pipeline.ΦA; rw [scopedRest0_eq]; simp only [owns_whole]; try rfl

/-- What the scratch holds before point `n`: anything before the first, then the state of the chunk before. -/
def scratchAt (c : Dev nD) : (n : ℕ) → n ≤ cfg0.N → sProp 𝕄
  | 0, _ => Pipeline.ΦA spec0 c
  | n + 1, h => iprop(iprop(owns (c : Thread nD τ) (Memref.whole cc0_scratch0) fullShare (stateOut m c n h)
        ∗ (∃ d, owns (c : Thread nD τ) (Memref.whole cc0_scratch1) fullShare d)) ∗ (∃ r, prngReg c r))

/-- The scratch at point `n` holds contents from which the chunk starts as from the state named for it. -/
theorem scratch_in (c : Dev nD) : (n : ℕ) → (h : n < cfg0.N) →
    (scratchAt m c n (Nat.le_of_lt h) ⊢ (iprop(∃ d, ⌜stateBefore (grid0.coords ⟨n, h⟩) (iblk m c 6 ⟨n, h⟩) d = stateBefore (grid0.coords ⟨n, h⟩) (iblk m c 6 ⟨n, h⟩) (stateIn m c n h)⌝
      ∗ iprop(owns (c : Thread nD τ) (Memref.whole cc0_scratch0) fullShare d
        ∗ (∃ d, owns (c : Thread nD τ) (Memref.whole cc0_scratch1) fullShare d)) ∗ (∃ r, prngReg c r)) : sProp 𝕄))
  | 0, h => by
    show Pipeline.ΦA spec0 c ⊢ _
    rw [scratch_eq]
    iintro ⟨⟨⟨%d, H0⟩, H1⟩, Hg⟩
    iexists d
    isplitr
    · ipureintro; exact stateBefore_first ((atFirst_iff ⟨0, h⟩).mpr rfl) _ _ _
    isplitl [H0 H1]
    · isplitl [H0]; · iexact H0
      iexact H1
    iexact Hg
  | n + 1, h => by
    unfold scratchAt
    iintro ⟨⟨H0, H1⟩, Hg⟩
    iexists _
    isplitr
    rotate_left
    · isplitl [H0 H1]
      · isplitl [H0]; · iexact H0
        iexact H1
      iexact Hg
    · ipureintro; rfl

/-- Whatever the scratch is named to hold, it holds something. -/
theorem scratch_out (c : Dev nD) : (n : ℕ) → (h : n ≤ cfg0.N) → scratchAt m c n h ⊢ Pipeline.ΦA spec0 c
  | 0, h => .rfl
  | n + 1, h => by
    rw [scratch_eq]
    unfold scratchAt
    iintro ⟨⟨H0, H1⟩, Hg⟩
    isplitl [H0 H1]
    · isplitl [H0]; · iexists _; iexact H0
      iexact H1
    iexact Hg

/-- The pipeline's data: every input block is handed back as it was fetched, the blocks of codes and scales are those of the chunk's outputs, the
    block of final states is the state after the chunk, and the scratch holds the state between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => codesOf (outputsOut m c t.val t.isLt)
    | ⟨9, _⟩ => scalesOf (outputsOut m c t.val t.isLt)
    | ⟨10, _⟩ => k0_pay3 (stateOut m c t.val t.isLt)
  Φ t := scratchAt m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]

theorem after_8 (c : Dev nD) (t : Fin cfg0.N) : (dats m 0 c).after 8 t = codesOf (outputsOut m c t.val t.isLt) := by dsimp only [dats]
theorem after_9 (c : Dev nD) (t : Fin cfg0.N) : (dats m 0 c).after 9 t = scalesOf (outputsOut m c t.val t.isLt) := by dsimp only [dats]
theorem after_10 (c : Dev nD) (t : Fin cfg0.N) : (dats m 0 c).after 10 t = k0_pay3 (stateOut m c t.val t.isLt) := by dsimp only [dats]

theorem scratch_castSucc (c : Dev nD) (t : Fin cfg0.N) :
    (dats m 0 c).Φ t.castSucc = scratchAt m c t.val (Nat.le_of_lt t.isLt) := by
  dsimp only [dats]; exact Pipeline.Dat.Φ_castSucc (scratchAt m c) t

theorem scratch_succ (c : Dev nD) (t : Fin cfg0.N) :
    (dats m 0 c).Φ t.succ = iprop(iprop(owns (c : Thread nD τ) (Memref.whole cc0_scratch0) fullShare (stateOut m c t.val t.isLt)
        ∗ (∃ d, owns (c : Thread nD τ) (Memref.whole cc0_scratch1) fullShare d)) ∗ (∃ r, prngReg c r)) := rfl

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-- What the body is handed at point `t`. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d)))

/-- What the body hands back at point `t`. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ (dats m 0 c).leavesExact 8 t
    ∗ (dats m 0 c).leavesExact 9 t
    ∗ (dats m 0 c).leavesExact 10 t)

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, after_0, before_1, after_1, before_2, after_2, before_3, after_3, before_4, after_4, before_5, after_5, before_6, after_6, before_7, after_7]
  rw [show (dats m 0 c).owesAt () t.succ = (dats m 0 c).owesAt () t.castSucc from rfl, scratch_castSucc, scratch_succ]
  iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  ihave HS := (scratch_in m c t.val t.isLt) $$ HS
  icases HS with ⟨%dS, %hB, ⟨HS0, HS1⟩, Hg⟩
  have hS : stateAfter (grid0.coords t) (iblk m c 0 t) (iblk m c 1 t) (iblk m c 3 t) (iblk m c 4 t) (iblk m c 5 t) (iblk m c 6 t) dS = stateOut m c t.val t.isLt :=
    (congrArg (chunkState (iblk m c 0 t) (iblk m c 1 t) (iblk m c 3 t) (iota .tc S64x128 32 [1] iota_S64x128_d1_w32) (k0_pay229 (iblk m c 4 t)) (iblk m c 5 t)) hB).trans (stateOut_of_in m c t.val t.isLt).symm
  have hO : outputsAfter (grid0.coords t) (iblk m c 0 t) (iblk m c 1 t) (iblk m c 2 t) (iblk m c 3 t) (iblk m c 4 t) (iblk m c 6 t) (iblk m c 7 t) dS = outputsOut m c t.val t.isLt :=
    congrArg (headOutput (iblk m c 0 t) (iblk m c 1 t) (iblk m c 2 t) (iblk m c 3 t) (iota .tc S64x128 32 [1] iota_S64x128_d1_w32) (k0_pay229 (iblk m c 4 t)) (iblk m c 7 t)) hB
  iapply (body_exact (F := F) Variants.none c none Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10))
    (Memref.whole cc0_scratch0) (Memref.isWhole_whole _) (Memref.whole cc0_scratch1) (Memref.isWhole_whole _)
    (iblk m c 0 t) (iblk m c 1 t) (iblk m c 2 t) (iblk m c 3 t) (iblk m c 4 t) (iblk m c 5 t) (iblk m c 6 t) (iblk m c 7 t) ((dats m 0 c).before 10 t d10) dS)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexact H10
  isplitl [HS0]; · iexact HS0
  isplitl [HS1]; · iexact HS1
  iintro ⟨H0, H1, H2, H3, H4, H5, H6, H7, H8, H9, H10, HS0, HS1⟩
  isplitl [HS0 HS1 Hg]
  · isplitl [HS0 HS1]
    · isplitl [HS0]; · rw [← hS]; iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · rw [show (dats m 0 c).leavesExact 8 t = owns (c : Thread nD τ) (win0_8.stage (cfg0.slots t 8)) fullShare ((dats m 0 c).after 8 t) from by
      unfold Dat.leavesExact; rw [live_codes t], after_8, ← hO]
    iexact H8
  isplitl [H9]
  · rw [show (dats m 0 c).leavesExact 9 t = owns (c : Thread nD τ) (win0_9.stage (cfg0.slots t 9)) fullShare ((dats m 0 c).after 9 t) from by
      unfold Dat.leavesExact; rw [live_scales t], after_9, ← hO]
    iexact H9
  by_cases hl : AtLast (grid0.coords t)
  · rw [show (dats m 0 c).leavesExact 10 t = owns (c : Thread nD τ) (win0_10.stage (cfg0.slots t 10)) fullShare ((dats m 0 c).after 10 t) from by
      unfold Dat.leavesExact; rw [live_of_last t hl], after_10, ← hS]
    rw [resultAfter, if_pos hl]
    iexact H10
  · rw [Dat.leavesExact_idle (dats m 0 c) 10 t (idle_of_not_last t hl).1 (idle_of_not_last t hl).2]
    rw [resultAfter, if_neg hl]
    iexists d10
    iexact H10

theorem scratch_last (c : Dev nD) : (dats m 0 c).Φ (Fin.last cfg0.N) ⊢ Pipeline.ΦA spec0 c := by
  rw [show (dats m 0 c).Φ (Fin.last cfg0.N) = scratchAt m c cfg0.N (Nat.le_refl _) from rfl]
  exact scratch_out m c _ _

theorem defs₀_row (t : Fin cfg0.N) :
    defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ outputs := fun t => by
  rw [bigSep_W0, bigSep_W0, defs₀_row]
  exact triple_restated (sound_body m c t) rfl .rfl fun _ => .rfl

set_option backward.isDefEq.respectTransparency.types false in
/-- The program runs, with every array as the pipeline leaves it and every counter at zero at the end. -/
theorem run_quiescent : θ_run defs (onTc (τ := τ) (main (F := F))) (s₀ m ρ)
    (fun r => Pipeline.RDat.FramePost (cfgs 0) (fun c => (dats m 0 c).toRForget outputs) (V m) r ∧ r.2.sem = fun _ => 0) :=
  Pipeline.θ_run_frame_track_forget (Q' := _) cfgs (dats m) (0 : Fin 1) launch0 defs₀ Variants.none outputs m ρ main
    (hbody := fun c => (body_obligation m c).loose) (hshare := fun c => (dats m 0 c).share_full fun _ => rfl)
    (howed := fun _ _ => rfl) (V := V m) (hmain := hmain m Variants.none) (hA := A_eq m) (hin := fun c => .rfl) (hout := scratch_last m)

/-- The program runs, its argument arrays end as they were launched, and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c =>
      ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      (Pipeline.RDat.FramePost.arr_in h.1 c 3 rfl).trans (V_main_arg3 m c),
      (Pipeline.RDat.FramePost.arr_in h.1 c 4 rfl).trans (V_main_arg4 m c),
      ((h.1 c).2 main_arg5 (Pipeline.mem_restRefs_of main_arg5 (by decide) (by decide))).trans (V_main_arg5 m c),
      (Pipeline.RDat.FramePost.arr_in h.1 c 6 rfl).trans (V_main_arg6 m c),
      ((h.1 c).2 main_arg7 (Pipeline.mem_restRefs_of main_arg7 (by decide) (by decide))).trans (V_main_arg7 m c)⟩, h.2⟩)
    (run_quiescent m ρ)

end Cert.Proof.KernelIdeal

end
-- ==== Proof.KernelIdeal.Blocks.lean ====
module

public import proofs.«01_k».proof.Proof.KernelIdeal.Frame
public import Idealize.ShloMosaic.Lib.Pipeline.ValueKit
public import Idealize.ShloMosaic.Lib.Pipeline.ValueKit.Point
public import Idealize.ShloMosaic.Lib.Pointwise
public import Idealize.ShloMosaic.Lib.Claim

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ)

theorem index_0 : ∀ t : Fin cfg0.N, (cfg0.win 0).index t = ![t.val, 0, 0, 0] := by decide +kernel
theorem index_1 : ∀ t : Fin cfg0.N, (cfg0.win 1).index t = ![t.val / 10, t.val % 10, 0, 0] := by decide +kernel
theorem index_2 : ∀ t : Fin cfg0.N, (cfg0.win 2).index t = ![t.val / 10, t.val % 10, 0, 0] := by decide +kernel
theorem index_3 : ∀ t : Fin cfg0.N, (cfg0.win 3).index t = ![0, t.val, 0] := by decide +kernel
theorem index_4 : ∀ t : Fin cfg0.N, (cfg0.win 4).index t = ![t.val, 0, 0] := by decide +kernel
theorem index_5 : ∀ t : Fin cfg0.N, (cfg0.win 5).index t = ![t.val, 0] := by decide +kernel
theorem index_6 : ∀ t : Fin cfg0.N, (cfg0.win 6).index t = ![t.val / 10, 0, 0, 0] := by decide +kernel
theorem index_7 : ∀ t : Fin cfg0.N, (cfg0.win 7).index t = ![0, 0] := by decide +kernel
theorem index_9 : ∀ t : Fin cfg0.N, (cfg0.win 9).index t = ![t.val / 10, t.val % 10, 0, 0] := by decide +kernel
theorem index_10 : ∀ t : Fin cfg0.N, (cfg0.win 10).index t = ![t.val / 10, 0, 0, 0] := by decide +kernel

/-- The codes of a chunk. -/
theorem code_at (c : Dev nD) (t : Fin cfg0.N) (h : Fin 24) (i j : Fin 128) (t' : Fin 20) (ht : t'.val = t.val) :
    iblk m c 0 t (ix4 0 h i j) = m ((c : Thread nD τ).loc main_arg0) (ix4 t' h i j) := by
  blk_point [iblk, V, index_0 t]

/-- The triangular matrices of a chunk. -/
theorem pair_at (c : Dev nD) (t : Fin cfg0.N) (i : Fin 64) (h : Fin 24) (j : Fin 128) (r : Fin 480) (hr : r.val = 24 * t.val + h.val) :
    iblk m c 3 t (ix3 i h j) = m ((c : Thread nD τ).loc main_arg3) (ix3 i r j) := by
  blk_point [iblk, V, index_3 t]

/-- The growth and fade factors of a chunk. -/
theorem factor_at (c : Dev nD) (t : Fin cfg0.N) (i : Fin 64) (l : Fin 128) (t' : Fin 20) (ht : t'.val = t.val) :
    iblk m c 4 t (ix3 0 i l) = m ((c : Thread nD τ).loc main_arg4) (ix3 t' i l) := by
  blk_point [iblk, V, index_4 t]

/-- The decay of a chunk, the same in every lane. -/
theorem decay_at (c : Dev nD) (t : Fin cfg0.N) (h : Fin 24) (l : Fin 128) (r : Fin 480) (hr : r.val = 24 * t.val + h.val) :
    iblk m c 5 t (ix2 h l) = m ((c : Thread nD τ).loc main_arg5) (ix2 r 0) := by
  blk_point [iblk, V, index_5 t]

/-- The initial state of a batch. -/
theorem initial_at (c : Dev nD) (t : Fin cfg0.N) (h : Fin 24) (i : Fin 128) (l : Fin 256) (b : Fin 2) (hb : b.val = t.val / 10) :
    iblk m c 6 t (ix4 0 h i l) = m ((c : Thread nD τ).loc main_arg6) (ix4 b h i l) := by
  blk_point [iblk, V, index_6 t]

/-- The values of a chunk: head `h` lies in row `16 (h / 8) + 8 p + h % 8` for half `p` of its lanes. -/
theorem value_at (c : Dev nD) (t : Fin cfg0.N) (i : Fin 64) (u : Fin 48) (l : Fin 128) (b : Fin 2) (hb : b.val = t.val / 10)
    (s : Fin 640) (hs : s.val = 64 * (t.val % 10) + i.val) (h : Fin 24) (p : Fin 2) (hu : u.val = 16 * (h.val / 8) + 8 * p.val + h.val % 8)
    (n : Fin 256) (hn : n.val = 128 * p.val + l.val) :
    iblk m c 1 t (ix4 0 i u l) = m ((c : Thread nD τ).loc main_arg1) (ix4 b s h n) := by
  blk_point [iblk, V, index_1 t]

/-- The gates of a chunk, laid out as the values are. -/
theorem gate_at (c : Dev nD) (t : Fin cfg0.N) (i : Fin 64) (u : Fin 48) (l : Fin 128) (b : Fin 2) (hb : b.val = t.val / 10)
    (s : Fin 640) (hs : s.val = 64 * (t.val % 10) + i.val) (h : Fin 24) (p : Fin 2) (hu : u.val = 16 * (h.val / 8) + 8 * p.val + h.val % 8)
    (n : Fin 256) (hn : n.val = 128 * p.val + l.val) :
    iblk m c 2 t (ix4 0 i u l) = m ((c : Thread nD τ).loc main_arg2) (ix4 b s h n) := by
  blk_point [iblk, V, index_2 t]

/-- The weights of the lanes. -/
theorem weight_at (c : Dev nD) (t : Fin cfg0.N) (n : Fin 256) : iblk m c 7 t (ix2 0 n) = m ((c : Thread nD τ).loc main_arg7) (ix1 n) := by
  blk_point [iblk, V, index_7 t]

end Cert.Proof.KernelIdeal

end
-- ==== Proof.KernelIdeal.Chunk.lean ====
module

public import proofs.«01_k».proof.Proof.KernelIdeal.Reads
public import proofs.«01_k».proof.Proof.KernelIdeal.Scales
public import proofs.«01_k».proof.Proof.KernelIdeal.Blocks
public import proofs.«01_k».proof.Proof.Delta

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic

theorem lanes_at (j : Fin 64) (l : Fin 128) : iota .tc S64x128 32 [1] iota_S64x128_d1_w32 (ix2 j l) = BitVec.ofNat 32 l.val := by
  pointwise

theorem factors_at (x6 : Vec Ideal S1x64x128 .f32) (j : Fin 64) (l : Fin 128) : k0_pay229 x6 (ix2 j l) = x6 (ix3 0 j l) := by
  unfold k0_pay229
  pointwise

theorem start_at (x8 : Vec Ideal S1x24x128x256 .f32) (h : Fin 24) (i : Fin 128) (n : Fin 256) : k0_pay227 x8 (ix3 h i n) = x8 (ix4 0 h i n) := by
  unfold k0_pay227
  pointwise

/-- The state after a chunk whose blocks are finite. -/
theorem chunkState_at (x2 : Vec Ideal S1x24x128x128 .fp8e4m3) (x3 : Vec Ideal S1x64x48x128 .bf16) (x5 : Vec Ideal S64x24x128 .f32)
    (v6 : IVec S64x128 32) (v8 : FVec Ideal S64x128 .f32) (x7 : Vec Ideal S24x128 .f32) (S : Vec Ideal S24x128x256 .f32)
    (k : Fin 24 → Fin 128 → Fin 128 → ℝ) (V : Fin 24 → Fin 64 → Fin 256 → ℝ) (T : Fin 64 → Fin 24 → Fin 128 → ℝ) (C : Fin 64 → Fin 128 → ℝ)
    (D : Fin 24 → ℝ) (σ : Fin 24 → Fin 128 → Fin 256 → ℝ)
    (h2 : ∀ h i j, x2 (ix4 0 h i j) = ((k h i j : ℝ) : EReal))
    (h3 : ∀ (h : Fin 24) (j : Fin 64) (n : Fin 256) (u : Fin 48) (l : Fin 128), u.val = 16 * (h.val / 8) + 8 * (n.val / 128) + h.val % 8 → l.val = n.val % 128 →
      x3 (ix4 0 j u l) = ((V h j n : ℝ) : EReal))
    (h5 : ∀ i h j, x5 (ix3 i h j) = ((T i h j : ℝ) : EReal))
    (h6 : ∀ (j : Fin 64) (l : Fin 128), v6 (ix2 j l) = BitVec.ofNat 32 l.val)
    (h8 : ∀ j l, v8 (ix2 j l) = ((C j l : ℝ) : EReal)) (h7 : ∀ h l, x7 (ix2 h l) = ((D h : ℝ) : EReal))
    (hS : ∀ h i n, S (ix3 h i n) = ((σ h i n : ℝ) : EReal)) (h : Fin 24) (i : Fin 128) (n : Fin 256) :
    chunkState x2 x3 x5 v6 v8 x7 S (ix3 h i n)
      = ((delta (fun r j => T r h (low j)) (fun r => C r (growLane h)) (fun r => C r (fadeLane h)) (fun r i => k h (low r) i) (V h) (D h) (σ h) i n : ℝ) : EReal) := by
  have hN : ∀ (r : Fin 64) (n : Fin 256), newValues v6 v8 (BitVec.ofNat 32 h.val) (valuesOf ⟨h.val % 2, by omega⟩ (valueHalf x3 h 0) (valueHalf x3 h 1))
      (codeRow x2 h) (stateRow S h) (pairRow x5 h) (ix2 r n)
      = ((∑ j : Fin 64, T r h (low j) * (V h j n - C j (growLane h) * ∑ l, k h (low j) l * σ h l n) : ℝ) : EReal) := fun r n =>
    newValues_at v6 v8 (growLane h) _ _ _ (V h) C (fun r n => ∑ l, k h r l * σ h l n) (fun r x => T r h x) h6 h8
      (fun j n => (valuesOf_at x3 h j n ⟨16 * (h.val / 8) + 8 * (n.val / 128) + h.val % 8, by have := h.isLt; have := n.isLt; omega⟩ ⟨n.val % 128, by omega⟩ rfl rfl).trans
        (h3 h j n _ _ rfl rfl))
      (fun r n => product_at _ _ (k h) (σ h) (fun r j => h2 h r j) (fun j n => hS h j n) r n) (fun r x => h5 r h x) r n
  exact newState_at v6 v8 (growLane h) (fadeLane h) rfl _ _ _ _ (k h) (σ h) C _ (D h) h6 h8 (fun r j => h2 h r j) (fun j n => hS h j n) hN
    (fun l => h7 h l) i n

/-- The outputs of a chunk whose blocks are finite. -/
theorem headOutput_at (x2 : Vec Ideal S1x24x128x128 .fp8e4m3) (x3 x4 : Vec Ideal S1x64x48x128 .bf16) (x5 : Vec Ideal S64x24x128 .f32)
    (v6 : IVec S64x128 32) (v8 : FVec Ideal S64x128 .f32) (x9 : Vec Ideal S1x256 .f32) (S : Vec Ideal S24x128x256 .f32)
    (k : Fin 24 → Fin 128 → Fin 128 → ℝ) (V Z : Fin 24 → Fin 64 → Fin 256 → ℝ) (T : Fin 64 → Fin 24 → Fin 128 → ℝ) (C : Fin 64 → Fin 128 → ℝ)
    (W : Fin 256 → ℝ) (σ : Fin 24 → Fin 128 → Fin 256 → ℝ)
    (h2 : ∀ h i j, x2 (ix4 0 h i j) = ((k h i j : ℝ) : EReal))
    (h3 : ∀ (h : Fin 24) (j : Fin 64) (n : Fin 256) (u : Fin 48) (l : Fin 128), u.val = 16 * (h.val / 8) + 8 * (n.val / 128) + h.val % 8 → l.val = n.val % 128 →
      x3 (ix4 0 j u l) = ((V h j n : ℝ) : EReal))
    (h4 : ∀ (h : Fin 24) (j : Fin 64) (n : Fin 256) (u : Fin 48) (l : Fin 128), u.val = 16 * (h.val / 8) + 8 * (n.val / 128) + h.val % 8 → l.val = n.val % 128 →
      x4 (ix4 0 j u l) = ((Z h j n : ℝ) : EReal))
    (h5 : ∀ i h j, x5 (ix3 i h j) = ((T i h j : ℝ) : EReal))
    (h6 : ∀ (j : Fin 64) (l : Fin 128), v6 (ix2 j l) = BitVec.ofNat 32 l.val)
    (h8 : ∀ j l, v8 (ix2 j l) = ((C j l : ℝ) : EReal)) (h9 : ∀ n, x9 (ix2 0 n) = ((W n : ℝ) : EReal))
    (hS : ∀ h i n, S (ix3 h i n) = ((σ h i n : ℝ) : EReal)) (h : Fin 24) (r : Fin 64) (n : Fin 256) :
    headOutput x2 x3 x4 x5 v6 v8 x9 S h (ix2 r n)
      = ((gated (reading (fun r j => T r h (low j)) (fun r j => T r h (high j)) (fun r => C r (growLane h)) (fun r => C r (queryLane h))
          (fun r i => k h (low r) i) (fun r i => k h (high r) i) (V h) (σ h) r) (Z h r) W n : ℝ) : EReal) := by
  have hpick : ∀ (x : Vec Ideal S1x64x48x128 .bf16) (V : Fin 24 → Fin 64 → Fin 256 → ℝ),
      (∀ (h : Fin 24) (j : Fin 64) (n : Fin 256) (u : Fin 48) (l : Fin 128), u.val = 16 * (h.val / 8) + 8 * (n.val / 128) + h.val % 8 → l.val = n.val % 128 →
        x (ix4 0 j u l) = ((V h j n : ℝ) : EReal)) → ∀ (j : Fin 64) (n : Fin 256),
      valuesOf ⟨h.val % 2, by omega⟩ (valueHalf x h 0) (valueHalf x h 1) (ix2 j n) = ((V h j n : ℝ) : EReal) := fun x V hx j n =>
    (valuesOf_at x h j n ⟨16 * (h.val / 8) + 8 * (n.val / 128) + h.val % 8, by have := h.isLt; have := n.isLt; omega⟩ ⟨n.val % 128, by omega⟩ rfl rfl).trans
      (hx h j n _ _ rfl rfl)
  have hP : ∀ (r : Fin 128) (n : Fin 256), k0_pay9 (codeRow x2 h) (stateRow S h) (ix2 r n) = ((∑ l, k h r l * σ h l n : ℝ) : EReal) := fun r n =>
    product_at _ _ (k h) (σ h) (fun r j => h2 h r j) (fun j n => hS h j n) r n
  have ht : ∀ (r : Fin 64) (x : Fin 128), pairRow x5 h (ix2 r x) = ((T r h x : ℝ) : EReal) := fun r x => h5 r h x
  have hN : ∀ (r : Fin 64) (n : Fin 256), newValues v6 v8 (BitVec.ofNat 32 h.val) (valuesOf ⟨h.val % 2, by omega⟩ (valueHalf x3 h 0) (valueHalf x3 h 1))
      (codeRow x2 h) (stateRow S h) (pairRow x5 h) (ix2 r n)
      = ((∑ j : Fin 64, T r h (low j) * (V h j n - C j (growLane h) * ∑ l, k h (low j) l * σ h l n) : ℝ) : EReal) := fun r n =>
    newValues_at v6 v8 (growLane h) _ _ _ (V h) C (fun r n => ∑ l, k h r l * σ h l n) (fun r x => T r h x) h6 h8 (hpick x3 V h3) hP ht r n
  unfold headOutput
  refine gated_at _ _ x9 (Z h) (fun r => reading (fun r j => T r h (low j)) (fun r j => T r h (high j)) (fun r => C r (growLane h)) (fun r => C r (queryLane h))
          (fun r i => k h (low r) i) (fun r i => k h (high r) i) (V h) (σ h) r) W (hpick x4 Z h4) (fun r n => ?_) h9 r n
  refine (reads_at v6 v8 (growLane h) (queryLane h) rfl _ _ _ _ _ C (fun r n => ∑ l, k h r l * σ h l n) (moved fun r x => T r h x) _ h6 h8 hN hP
    (first_at _ _ ht) (second_at _ _ ht) (third_at _ _ ht) r n).trans (congrArg (fun z : ℝ => (z : EReal)) ?_)
  unfold reading
  refine congrArg₂ (fun x y : ℝ => x + y) rfl (Finset.sum_congr rfl fun j _ => congrArg₂ (fun x y : ℝ => x * y) ?_ rfl)
  unfold moved
  rw [dif_pos (show (low j).val < 64 from j.isLt)]
  exact congrArg (fun l => T r h l) (Fin.ext (Nat.add_comm _ _))

variable (m : (ℓ : Loc nD τ sig) → Buf (Elt Ideal) ℓ)

/-- The argument arrays of a memory are the finite numbers `X`. -/
structure Holds (X : Inputs) (c : Dev nD) : Prop where
  codes : ∀ t h i j, m ((c : Thread nD τ).loc main_arg0) (ix4 t h i j) = ((X.codes t h i j : ℝ) : EReal)
  values : ∀ b s h n, m ((c : Thread nD τ).loc main_arg1) (ix4 b s h n) = ((X.values b s h n : ℝ) : EReal)
  pairs : ∀ i r j, m ((c : Thread nD τ).loc main_arg3) (ix3 i r j) = ((X.pairs i r j : ℝ) : EReal)
  factors : ∀ t i l, m ((c : Thread nD τ).loc main_arg4) (ix3 t i l) = ((X.factors t i l : ℝ) : EReal)
  decay : ∀ r, m ((c : Thread nD τ).loc main_arg5) (ix2 r 0) = ((X.decay r : ℝ) : EReal)
  initial : ∀ b h i n, m ((c : Thread nD τ).loc main_arg6) (ix4 b h i n) = ((X.initial b h i n : ℝ) : EReal)
  gate : ∀ b s h n, m ((c : Thread nD τ).loc main_arg2) (ix4 b s h n) = ((X.gate b s h n : ℝ) : EReal)
  weight : ∀ n, m ((c : Thread nD τ).loc main_arg7) (ix1 n) = ((X.weight n : ℝ) : EReal)

variable {m}

/-- A chunk's blocks give the recurrence's step. -/
theorem step_at {X : Inputs} {c : Dev nD} (H : Holds m X c) (t : Fin cfg0.N) (b : Fin 2) (n : Fin 10) (ht : t.val = 10 * b.val + n.val)
    (S : Vec Ideal S24x128x256 .f32) (σ : Fin 24 → Fin 128 → Fin 256 → ℝ) (hS : ∀ h i v, S (ix3 h i v) = ((σ h i v : ℝ) : EReal))
    (h : Fin 24) (i : Fin 128) (v : Fin 256) :
    chunkState (iblk m c 0 t) (iblk m c 1 t) (iblk m c 3 t) (iota .tc S64x128 32 [1] iota_S64x128_d1_w32) (k0_pay229 (iblk m c 4 t)) (iblk m c 5 t) S (ix3 h i v)
      = ((X.step b n σ h i v : ℝ) : EReal) := by
  have hb : b.val = t.val / 10 := by omega
  have hn : n.val = t.val % 10 := by omega
  refine chunkState_at _ _ _ _ _ _ _ (fun h i j => X.codes (chunkOf b n) h i j) (fun h j v => X.values b (rowOf n j) h v)
    (fun i h j => X.pairs i (headRow b n h) j) (fun j l => X.factors (chunkOf b n) j l) (fun h => X.decay (headRow b n h)) σ
    (fun h i j => (code_at m c t h i j (chunkOf b n) ht.symm).trans (H.codes _ _ _ _))
    (fun h j v u l hu hl => (value_at m c t j u l b hb (rowOf n j) (by simp only [rowOf]; omega) h ⟨v.val / 128, by omega⟩ hu v (by simp only; omega)).trans
      (H.values _ _ _ _))
    (fun i h j => (pair_at m c t i h j (headRow b n h) (by simp only [headRow]; omega)).trans (H.pairs _ _ _))
    lanes_at
    (fun j l => (factors_at _ j l).trans ((factor_at m c t j l (chunkOf b n) ht.symm).trans (H.factors _ _ _)))
    (fun h l => (decay_at m c t h l (headRow b n h) (by simp only [headRow]; omega)).trans (H.decay _))
    hS h i v

/-- The state after chunk `t` is the recurrence's. -/
theorem stateOut_at {X : Inputs} {c : Dev nD} (H : Holds m X c) : (t : ℕ) → (ht : t < cfg0.N) → (b : Fin 2) → (n : Fin 10) → t = 10 * b.val + n.val →
    ∀ h i v, stateOut m c t ht (ix3 h i v) = ((X.state b (n.val + 1) h i v : ℝ) : EReal)
  | t, ht, b, n, e => by
    have hn : (⟨n.val % 10, Nat.mod_lt _ (by decide)⟩ : Fin 10) = n := Fin.ext (Nat.mod_eq_of_lt n.isLt)
    have key : ∀ (d : Vec Ideal S24x128x256 .f32), (n.val ≠ 0 → ∀ h i v, d (ix3 h i v) = ((X.state b n.val h i v : ℝ) : EReal)) → ∀ h i v,
        stateAfter (grid0.coords ⟨t, ht⟩) (iblk m c 0 ⟨t, ht⟩) (iblk m c 1 ⟨t, ht⟩) (iblk m c 3 ⟨t, ht⟩) (iblk m c 4 ⟨t, ht⟩) (iblk m c 5 ⟨t, ht⟩)
          (iblk m c 6 ⟨t, ht⟩) d (ix3 h i v) = ((X.state b (n.val + 1) h i v : ℝ) : EReal) := by
      intro d hd h i v
      unfold stateAfter
      show _ = ((X.step b ⟨n.val % 10, Nat.mod_lt _ (by decide)⟩ (X.state b n.val) h i v : ℝ) : EReal)
      rw [hn]
      refine step_at H ⟨t, ht⟩ b n e _ _ (fun h i v => ?_) h i v
      unfold stateBefore
      by_cases hz : n.val = 0
      · rw [if_pos ((atFirst_iff _).2 (show t % 10 = 0 by omega)), start_at, hz]
        exact (initial_at m c ⟨t, ht⟩ h i v b (show b.val = t / 10 by omega)).trans (H.initial _ _ _ _)
      · rw [if_neg (fun hf => hz (by have : t % 10 = 0 := (atFirst_iff _).1 hf; omega))]
        exact hd hz h i v
    cases t with
    | zero => exact key _ (fun hz => absurd (by omega) hz)
    | succ t =>
      refine key _ (fun hz h i v => ?_)
      have ih := stateOut_at H t (Nat.lt_of_succ_lt ht) b ⟨n.val - 1, by omega⟩ (show t = 10 * b.val + (n.val - 1) by omega) h i v
      rw [show (⟨n.val - 1, by omega⟩ : Fin 10).val + 1 = n.val from by show n.val - 1 + 1 = n.val; omega] at ih
      exact ih

/-- The state a chunk starts from is the recurrence's. -/
theorem stateIn_at {X : Inputs} {c : Dev nD} (H : Holds m X c) (t : ℕ) (ht : t < cfg0.N) (b : Fin 2) (n : Fin 10) (e : t = 10 * b.val + n.val)
    (h : Fin 24) (i : Fin 128) (v : Fin 256) :
    stateBefore (grid0.coords ⟨t, ht⟩) (iblk m c 6 ⟨t, ht⟩) (stateIn m c t ht) (ix3 h i v) = ((X.state b n.val h i v : ℝ) : EReal) := by
  unfold stateBefore
  by_cases hz : n.val = 0
  · rw [if_pos ((atFirst_iff _).2 (show t % 10 = 0 by omega)), start_at, hz]
    exact (initial_at m c ⟨t, ht⟩ h i v b (show b.val = t / 10 by omega)).trans (H.initial _ _ _ _)
  · rw [if_neg (fun hf => hz (by have : t % 10 = 0 := (atFirst_iff _).1 hf; omega))]
    cases t with
    | zero => exact absurd (by omega) hz
    | succ t =>
      have ih := stateOut_at H t (Nat.lt_of_succ_lt ht) b ⟨n.val - 1, by omega⟩ (show t = 10 * b.val + (n.val - 1) by omega) h i v
      rw [show (⟨n.val - 1, by omega⟩ : Fin 10).val + 1 = n.val from by show n.val - 1 + 1 = n.val; omega] at ih
      exact ih

/-- The outputs of chunk `t` are those of the recurrence. -/
theorem outputsOut_at {X : Inputs} {c : Dev nD} (H : Holds m X c) (t : Fin cfg0.N) (b : Fin 2) (n : Fin 10) (ht : t.val = 10 * b.val + n.val)
    (h : Fin 24) (r : Fin 64) (v : Fin 256) :
    outputsOut m c t.val t.isLt h (ix2 r v) = ((X.output b n (X.state b n.val) r h v : ℝ) : EReal) := by
  have hb : b.val = t.val / 10 := by omega
  have hn : n.val = t.val % 10 := by omega
  unfold outputsOut outputsAfter
  exact headOutput_at _ _ _ _ _ _ _ _ (fun h i j => X.codes (chunkOf b n) h i j) (fun h j v => X.values b (rowOf n j) h v)
    (fun h j v => X.gate b (rowOf n j) h v) (fun i h j => X.pairs i (headRow b n h) j) (fun j l => X.factors (chunkOf b n) j l) X.weight (X.state b n.val)
    (fun h i j => (code_at m c t h i j (chunkOf b n) ht.symm).trans (H.codes _ _ _ _))
    (fun h j v u l hu hl => (value_at m c t j u l b hb (rowOf n j) (by simp only [rowOf]; omega) h ⟨v.val / 128, by omega⟩ hu v (by simp only; omega)).trans
      (H.values _ _ _ _))
    (fun h j v u l hu hl => (gate_at m c t j u l b hb (rowOf n j) (by simp only [rowOf]; omega) h ⟨v.val / 128, by omega⟩ hu v (by simp only; omega)).trans
      (H.gate _ _ _ _))
    (fun i h j => (pair_at m c t i h j (headRow b n h) (by simp only [headRow]; omega)).trans (H.pairs _ _ _))
    lanes_at
    (fun j l => (factors_at _ j l).trans ((factor_at m c t j l (chunkOf b n) ht.symm).trans (H.factors _ _ _)))
    (fun n => (weight_at m c t n).trans (H.weight n))
    (stateIn_at H t.val t.isLt b n ht) h r v

/-- The scales of chunk `t` are those of the recurrence. -/
theorem scales_at {X : Inputs} {c : Dev nD} (H : Holds m X c) (B : X.Small) (t : Fin cfg0.N) (b : Fin 2) (n : Fin 10) (ht : t.val = 10 * b.val + n.val) (r : Fin 64) :
    scalesOf (outputsOut m c t.val t.isLt) (ix4 0 0 0 r) = ((X.scale b n r : ℝ) : EReal) :=
  scalesOf_at _ (fun h r v => X.output b n (X.state b n.val) r h v) (outputsOut_at H t b n ht) r (B.lt b n _ r)

end Cert.Proof.KernelIdeal

end
-- ==== Proof.KernelIdeal.Result.lean ====
module

public import proofs.«01_k».proof.Proof.KernelIdeal.Blocks

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.Sem
open Idealize.ShloMosaic.Pipeline (Dat RDat Cfg Window)

variable (m : (ℓ : Loc nD τ sig) → Buf (Elt Ideal) ℓ) (ρ : Dev nD → PrngReg)

theorem last_lt (b : Fin 2) : 10 * b.val + 9 < cfg0.N := by
  have : cfg0.N = 20 := N_0
  omega

/-- The array of final states: for each batch, the state after its last chunk. -/
def finalState (c : Dev nD) : Buf (Elt Ideal) ((c : Thread nD τ).loc main_v9_2) :=
  fun (i : S2x24x128x256.Idx) => stateOut m c (10 * (i 0).val + 9) (last_lt (i 0)) (ix3 (i 1) (i 2) (i 3))

theorem stateOut_congr (c : Dev nD) {n n' : ℕ} {h : n < cfg0.N} {h' : n' < cfg0.N} {a a' : Fin 24} {i i' : Fin 128} {j j' : Fin 256}
    (hn : n = n') (ha : a.val = a'.val) (hi : i.val = i'.val) (hj : j.val = j'.val) :
    stateOut m c n h (ix3 a i j) = stateOut m c n' h' (ix3 a' i' j') := by
  obtain rfl := hn; obtain rfl := Fin.ext ha; obtain rfl := Fin.ext hi; obtain rfl := Fin.ext hj; rfl

theorem result_eq (c : Dev nD) : (dats m 0 c).arrAt 10 cfg0.N = finalState m c := by
  refine (dats m 0 c).arrAt_eq_of_covers 10 _ (by decide +kernel) fun t hf y => ?_
  have h9 : t.val % 10 = 9 := (flush0_10 t).mp hf
  blk_simp
  rw [after_10]
  refine (show k0_pay3 (stateOut m c t.val t.isLt) y = stateOut m c t.val t.isLt (ix3 (y 1) (y 2) (y 3)) from by
    unfold k0_pay3; idx_vars y; pointwise).trans ?_
  have h20 : t.val < 20 := Nat.lt_of_lt_of_eq t.isLt N_0
  have hy0 : (y 0).val < 1 := (y 0).isLt
  have hb : (((cfg0.win 10).blk t).view.emb y 0).val = t.val / 10 := by blk_simp [index_10 t]
  have h1 : (((cfg0.win 10).blk t).view.emb y 1).val = (y 1).val := by blk_simp [index_10 t]
  have h2 : (((cfg0.win 10).blk t).view.emb y 2).val = (y 2).val := by blk_simp [index_10 t]
  have h3 : (((cfg0.win 10).blk t).view.emb y 3).val = (y 3).val := by blk_simp [index_10 t]
  refine stateOut_congr m c (?_ : t.val = 10 * (((cfg0.win 10).blk t).view.emb y 0).val + 9) h1.symm h2.symm h3.symm
  rw [hb]; omega

theorem chunk_lt (b : Fin 2) (n : Fin 10) : 10 * b.val + n.val < cfg0.N := by
  have : cfg0.N = 20 := N_0
  omega

/-- The array of scales: for each chunk, those of its outputs. -/
def allScales (c : Dev nD) : Buf (Elt Ideal) ((c : Thread nD τ).loc main_v9_1) :=
  fun (i : S2x10x1x64.Idx) => scalesOf (outputsOut m c (10 * (i 0).val + (i 1).val) (chunk_lt (i 0) (i 1))) (ix4 0 0 0 (i 3))

theorem scales_congr (c : Dev nD) {n n' : ℕ} {h : n < cfg0.N} {h' : n' < cfg0.N} {r r' : Fin 64} (hn : n = n') (hr : r.val = r'.val) :
    scalesOf (outputsOut m c n h) (ix4 0 0 0 r) = scalesOf (outputsOut m c n' h') (ix4 0 0 0 r') := by
  obtain rfl := hn; obtain rfl := Fin.ext hr; rfl

/-- A scale block has one row. -/
theorem scales_row (x : Vec Ideal S1x1x1x64 .f32) (y : S1x1x1x64.Idx) : x y = x (ix4 0 0 0 (y 3 : Fin 64)) := by
  refine congrArg x (funext fun b => ?_)
  match b with
  | ⟨0, _⟩ => exact Subsingleton.elim (α := Fin 1) _ _
  | ⟨1, _⟩ => exact Subsingleton.elim (α := Fin 1) _ _
  | ⟨2, _⟩ => exact Subsingleton.elim (α := Fin 1) _ _
  | ⟨3, _⟩ => rfl

theorem scales_eq (c : Dev nD) : (dats m 0 c).arrAt 9 cfg0.N = allScales m c := by
  refine (dats m 0 c).arrAt_eq_of_covers 9 _ (by decide +kernel) fun t hf y => ?_
  blk_simp
  rw [after_9]
  have h20 : t.val < 20 := Nat.lt_of_lt_of_eq t.isLt N_0
  have hy0 : (y 0).val < 1 := (y 0).isLt
  have h0 : (((cfg0.win 9).blk t).view.emb y 0).val = t.val / 10 := by blk_simp [index_9 t]
  have h1 : (((cfg0.win 9).blk t).view.emb y 1).val = t.val % 10 := by blk_simp [index_9 t]
  have h3 : (((cfg0.win 9).blk t).view.emb y 3).val = (y 3).val := by blk_simp [index_9 t]
  refine (scales_row _ y).trans ?_
  refine scales_congr m c (?_ : t.val = 10 * (((cfg0.win 9).blk t).view.emb y 0).val + (((cfg0.win 9).blk t).view.emb y 1).val) h3.symm
  rw [h0, h1]; omega

theorem run_results : θ_run defs (onTc (τ := τ) (main (F := Ideal))) ⟨m, fun _ => 0, ρ⟩ (fun r => ∀ c : Dev nD,
      r.2.mem ((c.tc : Thread nD τ).loc main_v9_1) = allScales m c ∧ r.2.mem ((c.tc : Thread nD τ).loc main_v9_2) = finalState m c) :=
  (θ_run defs _ _).mono (fun r h c =>
      ⟨(((dats m 0 c).toRForget_arrAt_iff (fgt := outputs) (w := 9) rfl _ _).mp ((h.1 c).1 9)).trans (scales_eq m c),
        (((dats m 0 c).toRForget_arrAt_iff (fgt := outputs) (w := 10) rfl _ _).mp ((h.1 c).1 10)).trans (result_eq m c)⟩)
    (run_quiescent m ρ)

end Cert.Proof.KernelIdeal

end
-- ==== Proof.ReferenceIdeal.Step.lean ====
module

public import proofs.«01_k».proof.Proof.Gen.ReferenceIdeal.Skeleton
public import proofs.«01_k».proof.Proof.Delta

@[expose] public section

set_option maxRecDepth 16384

noncomputable section

namespace Cert.Proof.ReferenceIdeal

open Cert.ReferenceIdeal Cert.ReferenceIdeal.Gen
open Idealize.ShloMosaic Idealize.ShloMosaic.TcCoe Idealize.ShloMosaic.Tactic

/-! What one chunk of the reference computes when everything it reads is finite. -/

/-- The new values of all heads, from what the chunk loads. -/
def refValues (S : FVec Ideal S24x128x256 .f32) (kc : Vec Ideal S1x24x64x128 .fp8e4m3) (v : Vec Ideal S1x64x24x256 .bf16)
    (t : Vec Ideal S64x24x64 .f32) (g : Vec Ideal S1x64x24 .f32) : FVec Ideal S24x64x256 .f32 :=
  k0_pay18 S (k0_pay9 kc) (k0_pay11 v) (k0_pay12 t) (k0_pay14 g)

/-- All heads' states after a chunk, from what the chunk loads. -/
def refStep (S : FVec Ideal S24x128x256 .f32) (kc : Vec Ideal S1x24x64x128 .fp8e4m3) (v : Vec Ideal S1x64x24x256 .bf16)
    (t : Vec Ideal S64x24x64 .f32) (g f : Vec Ideal S1x64x24 .f32) (d : Vec Ideal S24x1 .f32) : FVec Ideal S24x128x256 .f32 :=
  k0_pay3 S d (k0_pay17 (k0_pay9 kc) (k0_pay16 f)) (refValues S kc v t g)

/-- The scales of a chunk, from what the chunk loads. -/
def refScale (S : FVec Ideal S24x128x256 .f32) (kc qc : Vec Ideal S1x24x64x128 .fp8e4m3) (v : Vec Ideal S1x64x24x256 .bf16)
    (t p : Vec Ideal S64x24x64 .f32) (g q : Vec Ideal S1x64x24 .f32) (z : Vec Ideal S1x64x24x256 .bf16) (w : Vec Ideal S256 .f32) : FVec Ideal S1x1x1x64 .f32 :=
  k0_pay2 (k0_pay19 S (k0_pay9 kc) (k0_pay10 qc) (k0_pay11 v) (k0_pay12 t) (k0_pay13 p) (k0_pay14 g) (k0_pay15 q) z w)

/-- The faded keys. -/
theorem faded_at (kc : Vec Ideal S1x24x64x128 .fp8e4m3) (f : Vec Ideal S1x64x24 .f32) (h : Fin 24) (r : Fin 64) (i : Fin 128) :
    k0_pay17 (k0_pay9 kc) (k0_pay16 f) (ix3 h r i) = f (ix3 0 r h) * kc (ix4 0 h r i) := by
  unfold k0_pay17 k0_pay16 k0_pay9
  pointwise

/-- The new values. -/
theorem values_at (S : FVec Ideal S24x128x256 .f32) (kc : Vec Ideal S1x24x64x128 .fp8e4m3) (v : Vec Ideal S1x64x24x256 .bf16)
    (t : Vec Ideal S64x24x64 .f32) (g : Vec Ideal S1x64x24 .f32) (h : Fin 24) (r : Fin 64) (n : Fin 256) :
    refValues S kc v t g (ix3 h r n) = (∑ j : Fin 64, t (ix3 r h j) * v (ix4 0 j h n))
      - ∑ l : Fin 128, (∑ j : Fin 64, t (ix3 r h j) * (g (ix3 0 j h) * kc (ix4 0 h j l))) * S (ix3 h l n) := by
  unfold refValues k0_pay18 k0_pay9 k0_pay11 k0_pay12 k0_pay14
  pointwise

/-- The decayed state and the faded keys times the new values. -/
theorem next_at (S : FVec Ideal S24x128x256 .f32) (d : Vec Ideal S24x1 .f32) (a : FVec Ideal S24x64x128 .f32) (b : FVec Ideal S24x64x256 .f32)
    (h : Fin 24) (i : Fin 128) (n : Fin 256) :
    k0_pay3 S d a b (ix3 h i n) = d (ix2 h 0) * S (ix3 h i n) + ∑ r : Fin 64, a (ix3 h r i) * b (ix3 h r n) := by
  unfold k0_pay3
  pointwise

/-- A chunk whose loads are finite gives the recurrence's step. -/
theorem refStep_at (S : FVec Ideal S24x128x256 .f32) (kc : Vec Ideal S1x24x64x128 .fp8e4m3) (v : Vec Ideal S1x64x24x256 .bf16)
    (t : Vec Ideal S64x24x64 .f32) (g f : Vec Ideal S1x64x24 .f32) (d : Vec Ideal S24x1 .f32)
    (k : Fin 24 → Fin 64 → Fin 128 → ℝ) (V : Fin 24 → Fin 64 → Fin 256 → ℝ) (T : Fin 24 → Fin 64 → Fin 64 → ℝ) (G W : Fin 24 → Fin 64 → ℝ)
    (D : Fin 24 → ℝ) (σ : Fin 24 → Fin 128 → Fin 256 → ℝ)
    (hS : ∀ h i n, S (ix3 h i n) = ((σ h i n : ℝ) : EReal)) (hk : ∀ h r i, kc (ix4 0 h r i) = ((k h r i : ℝ) : EReal))
    (hv : ∀ j h n, v (ix4 0 j h n) = ((V h j n : ℝ) : EReal)) (ht : ∀ r h j, t (ix3 r h j) = ((T h r j : ℝ) : EReal))
    (hg : ∀ j h, g (ix3 0 j h) = ((G h j : ℝ) : EReal)) (hf : ∀ j h, f (ix3 0 j h) = ((W h j : ℝ) : EReal))
    (hd : ∀ h, d (ix2 h 0) = ((D h : ℝ) : EReal)) (h : Fin 24) (i : Fin 128) (n : Fin 256) :
    refStep S kc v t g f d (ix3 h i n) = ((delta (T h) (G h) (W h) (k h) (V h) (D h) (σ h) i n : ℝ) : EReal) := by
  unfold refStep
  rw [next_at, hd, hS, ← delta_eq, EReal.coe_add, EReal.coe_mul, ← coe_sum]
  refine congrArg (fun z : EReal => ((D h : ℝ) : EReal) * ((σ h i n : ℝ) : EReal) + z) (Finset.sum_congr rfl fun r _ => ?_)
  rw [faded_at, values_at]
  simp only [hS, hk, hv, ht, hg, hf, ← EReal.coe_mul, coe_sum, ← EReal.coe_sub]

theorem lowest : Ideal.ofBits .f32 4286578688#32 = ⊥ := by
  simp [Ideal.ofBits, Ideal.ieee]

theorem highest : Ideal.ofBits .f32 2139095040#32 = ⊤ := by
  simp [Ideal.ofBits, Ideal.ieee]

theorem power_int : ∀ i : Fin 256, (IntOp.subi (BitVec.ofNat 32 i.val) 125#32).toInt = (i.val : ℤ) - 125 := by decide +kernel

/-- The powers of two the scale is chosen from. -/
theorem power_at (i : Fin 256) : FloatOps.exp2 (F := Ideal) (φ := .f32) (FloatOps.sitofp .f32 (IntOp.subi (BitVec.ofNat 32 i.val) 125#32))
    = (((2 : ℝ) ^ ((i.val : ℤ) - 125) : ℝ) : EReal) := by
  show Ideal.exp2 (((IntOp.subi (BitVec.ofNat 32 i.val) 125#32).toInt : ℝ) : EReal) = _
  rw [power_int, Ideal.exp2_coe]
  exact congrArg (fun z : ℝ => (z : EReal)) (Real.rpow_intCast 2 _)

/-- The scale of a group whose largest output is finite. -/
theorem scale_at (x : FVec Ideal S64x1 .f32) (a : ℝ) (r : Fin 64) (hx : x (ix2 r 0) = (a : EReal)) (hs : a * perTop < 2 ^ (126 : ℤ)) :
    k0_pay2 x (ix4 0 0 0 r) = ((scaleOf (a * perTop) : ℝ) : EReal) := by
  unfold k0_pay2
  pointwise
  simp only [hx, perTop_coe, ← EReal.coe_mul, word_tiny, highest, power_at, EReal.coe_lt_coe_iff]
  by_cases h : a * perTop < 2 ^ (-126 : ℤ)
  · rw [if_pos h]
    unfold scaleOf
    rw [if_pos h]
    rfl
  · rw [if_neg h]
    exact scale_min h hs _ fun i => rfl

/-- The largest output of a step over all heads and lanes. -/
theorem top_at (S : FVec Ideal S24x128x256 .f32) (kc qc : FVec Ideal S24x64x128 .f32) (v : FVec Ideal S24x64x256 .f32) (t p : FVec Ideal S24x64x64 .f32)
    (g q : FVec Ideal S24x64 .f32) (z : Vec Ideal S1x64x24x256 .bf16) (w : Vec Ideal S256 .f32)
    (N : Fin 24 → Fin 64 → Fin 256 → ℝ) (Q : Fin 24 → Fin 64 → Fin 128 → ℝ) (P : Fin 24 → Fin 64 → Fin 64 → ℝ) (C : Fin 24 → Fin 64 → ℝ)
    (Z : Fin 24 → Fin 64 → Fin 256 → ℝ) (W : Fin 256 → ℝ) (σ : Fin 24 → Fin 128 → Fin 256 → ℝ)
    (hS : ∀ h i n, S (ix3 h i n) = ((σ h i n : ℝ) : EReal)) (hN : ∀ h i n, k0_pay18 S kc v t g (ix3 h i n) = ((N h i n : ℝ) : EReal))
    (hQ : ∀ h r i, qc (ix3 h r i) = ((Q h r i : ℝ) : EReal)) (hP : ∀ h r j, p (ix3 h r j) = ((P h r j : ℝ) : EReal))
    (hC : ∀ h r, q (ix2 h r) = ((C h r : ℝ) : EReal)) (hZ : ∀ r h n, z (ix4 0 r h n) = ((Z h r n : ℝ) : EReal)) (hW : ∀ n, w (ix1 n) = ((W n : ℝ) : EReal))
    (r : Fin 64) :
    k0_pay19 S kc qc v t p g q z w (ix2 r 0)
      = ((largest (fun h => gated (fun n => (∑ l, C h r * Q h r l * σ h l n) + ∑ j, P h r j * N h j n) (Z h r) W) : ℝ) : EReal) := by
  unfold k0_pay19
  generalize k0_pay18 S kc v t g = V at hN ⊢
  pointwise
  simp only [hS, hN, hQ, hP, hC, hZ, hW, ← EReal.coe_mul, coe_sum, ← EReal.coe_add, word_256, eps_coe]
  have hd : ∀ a : ℝ, Ideal.div (a : EReal) ((256 : ℝ) : EReal) = ((a / 256 : ℝ) : EReal) := fun a => by
    rw [Ideal.div_coe (by norm_num), ← EReal.coe_mul, mul_one_div]
  refine eq_largest _ _ fun c => ?_
  simp only [Finset.fold_max_le, lowest, bot_le, true_and, Finset.mem_univ, true_imp_iff]
  refine forall_congr' fun h => forall_congr' fun n => ?_
  rw [hd, ← absf_coe, ← gated_coe (fun n => (∑ l, C h r * Q h r l * σ h l n) + ∑ j, P h r j * N h j n) (Z h r) W n _ rfl, EReal.coe_add,
    EReal.coe_add (_ / 256)]

/-- The scales of a chunk whose loads are finite. -/
theorem refScale_at (S : FVec Ideal S24x128x256 .f32) (kc qc : Vec Ideal S1x24x64x128 .fp8e4m3) (v : Vec Ideal S1x64x24x256 .bf16)
    (t p : Vec Ideal S64x24x64 .f32) (g q : Vec Ideal S1x64x24 .f32) (z : Vec Ideal S1x64x24x256 .bf16) (w : Vec Ideal S256 .f32)
    (k Q : Fin 24 → Fin 64 → Fin 128 → ℝ) (V Z : Fin 24 → Fin 64 → Fin 256 → ℝ) (T P : Fin 24 → Fin 64 → Fin 64 → ℝ) (G C : Fin 24 → Fin 64 → ℝ)
    (W : Fin 256 → ℝ) (σ : Fin 24 → Fin 128 → Fin 256 → ℝ)
    (hS : ∀ h i n, S (ix3 h i n) = ((σ h i n : ℝ) : EReal)) (hk : ∀ h r i, kc (ix4 0 h r i) = ((k h r i : ℝ) : EReal))
    (hq : ∀ h r i, qc (ix4 0 h r i) = ((Q h r i : ℝ) : EReal))
    (hv : ∀ j h n, v (ix4 0 j h n) = ((V h j n : ℝ) : EReal)) (ht : ∀ r h j, t (ix3 r h j) = ((T h r j : ℝ) : EReal))
    (hp : ∀ r h j, p (ix3 r h j) = ((P h r j : ℝ) : EReal))
    (hg : ∀ j h, g (ix3 0 j h) = ((G h j : ℝ) : EReal)) (hc : ∀ j h, q (ix3 0 j h) = ((C h j : ℝ) : EReal))
    (hz : ∀ j h n, z (ix4 0 j h n) = ((Z h j n : ℝ) : EReal)) (hw : ∀ n, w (ix1 n) = ((W n : ℝ) : EReal)) (r : Fin 64)
    (hs : largest (fun h => gated (reading (T h) (P h) (G h) (C h) (k h) (Q h) (V h) (σ h) r) (Z h r) W) * perTop < 2 ^ (126 : ℤ)) :
    refScale S kc qc v t p g q z w (ix4 0 0 0 r)
      = ((scaleOf (largest (fun h => gated (reading (T h) (P h) (G h) (C h) (k h) (Q h) (V h) (σ h) r) (Z h r) W) * perTop) : ℝ) : EReal) := by
  unfold refScale
  refine scale_at _ _ r ((top_at S _ _ _ _ _ _ _ z w
    (fun h i n => (∑ j, T h i j * V h j n) - ∑ l, (∑ j, T h i j * (G h j * k h j l)) * σ h l n) Q P C Z W σ hS
    (fun h i n => ?_) (fun h r i => ?_) (fun h r j => ?_) (fun h r => ?_) hz hw r).trans ?_) hs
  · refine (values_at S kc v t g h i n).trans ?_
    simp only [hS, hk, hv, ht, hg, ← EReal.coe_mul, coe_sum, ← EReal.coe_sub]
  · refine Eq.trans ?_ (hq h r i)
    unfold k0_pay10; pointwise
  · refine Eq.trans ?_ (hp r h j)
    unfold k0_pay13; pointwise
  · refine Eq.trans ?_ (hc r h)
    unfold k0_pay15; pointwise
  · simp only [reading_eq]

end Cert.Proof.ReferenceIdeal

end
-- ==== Proof.ReferenceIdeal.Trip.lean ====
module

public import proofs.«01_k».proof.Proof.Gen.ReferenceIdeal.Loops
public import proofs.«01_k».proof.Proof.ReferenceIdeal.Step

@[expose] public section

set_option maxRecDepth 16384

noncomputable section

namespace Cert.Proof.ReferenceIdeal

open Cert.ReferenceIdeal Cert.ReferenceIdeal.Gen
open Idealize.ShloMosaic Idealize.ShloMosaic.TcCoe Idealize.ShloMosaic.Tactic

/-! What a trip's loads read of the whole arrays, and the state before each trip and the scales stored by then. -/

section
variable {F : FTy → Type} [FloatOps F]

theorem codes_load (a : Memref sig .tc .vmem S20x24x128x128 .fp8e4m3) (X : BufTy.Contents (Elt F) a.view.ty) (off : Fin 4 → ℕ) (inb) (t : Fin 20) (o : ℕ)
    (hoff : off = ![t.val, 0, o, 0]) (h : Fin 24) (r : Fin 64) (i l : Fin 128) (hl : l.val = o + r.val) :
    a.view.readAt (Elt F) (Rect.unit (s := S20x24x128x128) off S1x24x64x128.size inb).toLoadRect X (ix4 0 h r i)
      = a.view.read (Elt F) X (ix4 t h l i) := by
  subst hoff
  refine congrArg (a.view.read (Elt F) X) (funext fun b => Fin.ext ?_)
  match b with
  | ⟨0, _⟩ => show t.val + 1 * 0 = t.val; omega
  | ⟨1, _⟩ => show 0 + 1 * h.val = h.val; omega
  | ⟨2, _⟩ => show o + 1 * r.val = l.val; omega
  | ⟨3, _⟩ => show 0 + 1 * i.val = i.val; omega

theorem values_load (a : Memref sig .tc .vmem S2x640x24x256 .bf16) (X : BufTy.Contents (Elt F) a.view.ty) (off : Fin 4 → ℕ) (inb) (b : Fin 2) (n : Fin 10)
    (hoff : off = ![b.val, 64 * n.val, 0, 0]) (j : Fin 64) (h : Fin 24) (v : Fin 256) :
    a.view.readAt (Elt F) (Rect.unit (s := S2x640x24x256) off S1x64x24x256.size inb).toLoadRect X (ix4 0 j h v)
      = a.view.read (Elt F) X (ix4 b (rowOf n j) h v) := by
  subst hoff
  refine congrArg (a.view.read (Elt F) X) (funext fun z => Fin.ext ?_)
  match z with
  | ⟨0, _⟩ => show b.val + 1 * 0 = b.val; omega
  | ⟨1, _⟩ => show 64 * n.val + 1 * j.val = 64 * n.val + j.val; omega
  | ⟨2, _⟩ => show 0 + 1 * h.val = h.val; omega
  | ⟨3, _⟩ => show 0 + 1 * v.val = v.val; omega

theorem pairs_load (a : Memref sig .tc .vmem S64x480x128 .f32) (X : BufTy.Contents (Elt F) a.view.ty) (off : Fin 3 → ℕ) (inb) (b : Fin 2) (n : Fin 10) (o : ℕ)
    (hoff : off = ![0, 24 * (10 * b.val + n.val), o]) (r : Fin 64) (h : Fin 24) (j : Fin 64) (l : Fin 128) (hl : l.val = o + j.val) :
    a.view.readAt (Elt F) (Rect.unit (s := S64x480x128) off S64x24x64.size inb).toLoadRect X (ix3 r h j)
      = a.view.read (Elt F) X (ix3 r (headRow b n h) l) := by
  subst hoff
  refine congrArg (a.view.read (Elt F) X) (funext fun z => Fin.ext ?_)
  match z with
  | ⟨0, _⟩ => show 0 + 1 * r.val = r.val; omega
  | ⟨1, _⟩ => show 24 * (10 * b.val + n.val) + 1 * h.val = 24 * (10 * b.val + n.val) + h.val; omega
  | ⟨2, _⟩ => show o + 1 * j.val = l.val; omega

theorem factors_load (a : Memref sig .tc .vmem S20x64x128 .f32) (X : BufTy.Contents (Elt F) a.view.ty) (off : Fin 3 → ℕ) (inb) (t : Fin 20) (o : ℕ)
    (hoff : off = ![t.val, 0, o]) (j : Fin 64) (h : Fin 24) (l : Fin 128) (hl : l.val = o + h.val) :
    a.view.readAt (Elt F) (Rect.unit (s := S20x64x128) off S1x64x24.size inb).toLoadRect X (ix3 0 j h)
      = a.view.read (Elt F) X (ix3 t j l) := by
  subst hoff
  refine congrArg (a.view.read (Elt F) X) (funext fun z => Fin.ext ?_)
  match z with
  | ⟨0, _⟩ => show t.val + 1 * 0 = t.val; omega
  | ⟨1, _⟩ => show 0 + 1 * j.val = j.val; omega
  | ⟨2, _⟩ => show o + 1 * h.val = l.val; omega

theorem decay_load (a : Memref sig .tc .vmem S480x1 .f32) (X : BufTy.Contents (Elt F) a.view.ty) (off : Fin 2 → ℕ) (inb) (b : Fin 2) (n : Fin 10)
    (hoff : off = ![24 * (10 * b.val + n.val), 0]) (h : Fin 24) :
    a.view.readAt (Elt F) (Rect.unit (s := S480x1) off S24x1.size inb).toLoadRect X (ix2 h 0)
      = a.view.read (Elt F) X (ix2 (headRow b n h) 0) := by
  subst hoff
  refine congrArg (a.view.read (Elt F) X) (funext fun z => Fin.ext ?_)
  match z with
  | ⟨0, _⟩ => show 24 * (10 * b.val + n.val) + 1 * h.val = 24 * (10 * b.val + n.val) + h.val; omega
  | ⟨1, _⟩ => rfl

theorem initial_load (a : Memref sig .tc .vmem S2x24x128x256 .f32) (X : BufTy.Contents (Elt F) a.view.ty) (off : Fin 4 → ℕ) (inb) (b : Fin 2)
    (hoff : off = ![b.val, 0, 0, 0]) (h : Fin 24) (i : Fin 128) (v : Fin 256) :
    a.view.readAt (Elt F) (Rect.unit (s := S2x24x128x256) off S1x24x128x256.size inb).toLoadRect X (ix4 0 h i v)
      = a.view.read (Elt F) X (ix4 b h i v) := by
  subst hoff
  refine congrArg (a.view.read (Elt F) X) (funext fun z => Fin.ext ?_)
  match z with
  | ⟨0, _⟩ => show b.val + 1 * 0 = b.val; omega
  | ⟨1, _⟩ => show 0 + 1 * h.val = h.val; omega
  | ⟨2, _⟩ => show 0 + 1 * i.val = i.val; omega
  | ⟨3, _⟩ => show 0 + 1 * v.val = v.val; omega

theorem weight_load (a : Memref sig .tc .vmem S256 .f32) (X : BufTy.Contents (Elt F) a.view.ty) (inb) (n : Fin 256) :
    a.view.readAt (Elt F) (Rect.unit (s := S256) ![0] S256.size inb).toLoadRect X (ix1 n) = a.view.read (Elt F) X (ix1 n) := by
  refine congrArg (a.view.read (Elt F) X) (funext fun z => Fin.ext ?_)
  match z with
  | ⟨0, _⟩ => show 0 + 1 * n.val = n.val; omega

end

/-- The whole arrays are the finite numbers `X`. -/
structure Reads (X : Inputs) (x0 : Vec Ideal S20x24x128x128 .fp8e4m3) (x1 x2 : Vec Ideal S2x640x24x256 .bf16) (x3 : Vec Ideal S64x480x128 .f32)
    (x4 : Vec Ideal S20x64x128 .f32) (x5 : Vec Ideal S480x1 .f32) (x6 : Vec Ideal S2x24x128x256 .f32) (x7 : Vec Ideal S256 .f32) : Prop where
  codes : ∀ t h i j, x0 (ix4 t h i j) = ((X.codes t h i j : ℝ) : EReal)
  values : ∀ b s h n, x1 (ix4 b s h n) = ((X.values b s h n : ℝ) : EReal)
  gate : ∀ b s h n, x2 (ix4 b s h n) = ((X.gate b s h n : ℝ) : EReal)
  pairs : ∀ i r j, x3 (ix3 i r j) = ((X.pairs i r j : ℝ) : EReal)
  factors : ∀ t i l, x4 (ix3 t i l) = ((X.factors t i l : ℝ) : EReal)
  decay : ∀ r, x5 (ix2 r 0) = ((X.decay r : ℝ) : EReal)
  initial : ∀ b h i n, x6 (ix4 b h i n) = ((X.initial b h i n : ℝ) : EReal)
  weight : ∀ n, x7 (ix1 n) = ((X.weight n : ℝ) : EReal)

/-- The array of scales. -/
def scaleArray (X : Inputs) (y : S2x10x1x64.Idx) : EReal := ((X.scale (y 0) (y 1) (y 3) : ℝ) : EReal)

section
variable (𝒱 : Variants) (c : Dev nD) (bd : Option 𝒱.V)
  (arg0 : Memref sig .tc .vmem S20x24x128x128 .fp8e4m3) (harg0 : arg0.IsWhole)
  (arg1 : Memref sig .tc .vmem S2x640x24x256 .bf16) (harg1 : arg1.IsWhole)
  (arg2 : Memref sig .tc .vmem S2x640x24x256 .bf16) (harg2 : arg2.IsWhole)
  (arg3 : Memref sig .tc .vmem S64x480x128 .f32) (harg3 : arg3.IsWhole)
  (arg4 : Memref sig .tc .vmem S20x64x128 .f32) (harg4 : arg4.IsWhole)
  (arg5 : Memref sig .tc .vmem S480x1 .f32) (harg5 : arg5.IsWhole)
  (arg6 : Memref sig .tc .vmem S2x24x128x256 .f32) (harg6 : arg6.IsWhole)
  (arg7 : Memref sig .tc .vmem S256 .f32) (harg7 : arg7.IsWhole)
  (arg8 : Memref sig .tc .vmem S2x10x1x64 .f32) (harg8 : arg8.IsWhole)
  (arg9 : Memref sig .tc .vmem S2x24x128x256 .f32) (harg9 : arg9.IsWhole)
  (X0 : BufTy.Contents (Elt Ideal) arg0.view.ty)
  (X1 : BufTy.Contents (Elt Ideal) arg1.view.ty)
  (X2 : BufTy.Contents (Elt Ideal) arg2.view.ty)
  (X3 : BufTy.Contents (Elt Ideal) arg3.view.ty)
  (X4 : BufTy.Contents (Elt Ideal) arg4.view.ty)
  (X5 : BufTy.Contents (Elt Ideal) arg5.view.ty)
  (X7 : BufTy.Contents (Elt Ideal) arg7.view.ty)

section
variable (o1 : Fin 4 → ℕ) (o2 : Fin 4 → ℕ) (o3 : Fin 4 → ℕ) (o4 : Fin 3 → ℕ) (o5 : Fin 3 → ℕ) (o6 : Fin 3 → ℕ) (o7 : Fin 3 → ℕ) (o8 : Fin 3 → ℕ) (o9 : Fin 2 → ℕ)
  (i1) (i2) (i3) (i4) (i5) (i6) (i7) (i8) (i9) (iw)

/-- Where a trip's loads lie: chunk `n` of batch `b`. -/
structure At (b : Fin 2) (n : Fin 10) : Prop where
  keys : o1 = ![(chunkOf b n).val, 0, 0, 0]
  queries : o2 = ![(chunkOf b n).val, 0, 64, 0]
  rows : o3 = ![b.val, 64 * n.val, 0, 0]
  first : o4 = ![0, 24 * (10 * b.val + n.val), 0]
  second : o5 = ![0, 24 * (10 * b.val + n.val), 64]
  grow : o6 = ![(chunkOf b n).val, 0, 0]
  query : o7 = ![(chunkOf b n).val, 0, 32]
  fade : o8 = ![(chunkOf b n).val, 0, 64]
  decay : o9 = ![24 * (10 * b.val + n.val), 0]

variable {o1 o2 o3 o4 o5 o6 o7 o8 o9}

/-- A trip takes the recurrence's states before its chunk to those after it. -/
theorem step_of_loads {b : Fin 2} {n : Fin 10} (O : At o1 o2 o3 o4 o5 o6 o7 o8 o9 b n) {X : Inputs} {x6 : Vec Ideal S2x24x128x256 .f32}
    (R : Reads X (arg0.view.read (Elt Ideal) X0) (arg1.view.read (Elt Ideal) X1) (arg2.view.read (Elt Ideal) X2) (arg3.view.read (Elt Ideal) X3) (arg4.view.read (Elt Ideal) X4) (arg5.view.read (Elt Ideal) X5) x6 (arg7.view.read (Elt Ideal) X7))
    (S : FVec Ideal S24x128x256 .f32) (hS : ∀ h i v, S (ix3 h i v) = ((X.state b n.val h i v : ℝ) : EReal)) (h : Fin 24) (i : Fin 128) (v : Fin 256) :
    refStep S (arg0.view.readAt (Elt Ideal) (Rect.unit (s := S20x24x128x128) o1 S1x24x64x128.size i1).toLoadRect X0)
          (arg1.view.readAt (Elt Ideal) (Rect.unit (s := S2x640x24x256) o3 S1x64x24x256.size i3).toLoadRect X1)
          (arg3.view.readAt (Elt Ideal) (Rect.unit (s := S64x480x128) o4 S64x24x64.size i4).toLoadRect X3)
          (arg4.view.readAt (Elt Ideal) (Rect.unit (s := S20x64x128) o6 S1x64x24.size i6).toLoadRect X4)
          (arg4.view.readAt (Elt Ideal) (Rect.unit (s := S20x64x128) o8 S1x64x24.size i8).toLoadRect X4)
          (arg5.view.readAt (Elt Ideal) (Rect.unit (s := S480x1) o9 S24x1.size i9).toLoadRect X5) (ix3 h i v)
      = ((X.state b (n.val + 1) h i v : ℝ) : EReal) := by
  have hn : (⟨n.val % 10, Nat.mod_lt _ (by decide)⟩ : Fin 10) = n := Fin.ext (Nat.mod_eq_of_lt n.isLt)
  show _ = ((X.step b ⟨n.val % 10, Nat.mod_lt _ (by decide)⟩ (X.state b n.val) h i v : ℝ) : EReal)
  rw [hn]
  exact refStep_at _ _ _ _ _ _ _ _ _ _ _ _ _ _ hS
    (fun h r i => (codes_load arg0 X0 _ _ (chunkOf b n) 0 O.keys h r i (low r) (Nat.zero_add _).symm).trans (R.codes _ _ _ _))
    (fun j h v => (values_load arg1 X1 _ _ b n O.rows j h v).trans (R.values _ _ _ _))
    (fun r h j => (pairs_load arg3 X3 _ _ b n 0 O.first r h j (low j) (Nat.zero_add _).symm).trans (R.pairs _ _ _))
    (fun j h => (factors_load arg4 X4 _ _ (chunkOf b n) 0 O.grow j h (growLane h) (Nat.zero_add _).symm).trans (R.factors _ _ _))
    (fun j h => (factors_load arg4 X4 _ _ (chunkOf b n) 64 O.fade j h (fadeLane h) rfl).trans (R.factors _ _ _))
    (fun h => (decay_load arg5 X5 _ _ b n O.decay h).trans (R.decay _)) h i v

/-- A trip's scales are the recurrence's. -/
theorem scale_of_loads {b : Fin 2} {n : Fin 10} (O : At o1 o2 o3 o4 o5 o6 o7 o8 o9 b n) {X : Inputs} (B : X.Small) {x6 : Vec Ideal S2x24x128x256 .f32}
    (R : Reads X (arg0.view.read (Elt Ideal) X0) (arg1.view.read (Elt Ideal) X1) (arg2.view.read (Elt Ideal) X2) (arg3.view.read (Elt Ideal) X3) (arg4.view.read (Elt Ideal) X4) (arg5.view.read (Elt Ideal) X5) x6 (arg7.view.read (Elt Ideal) X7))
    (S : FVec Ideal S24x128x256 .f32) (hS : ∀ h i v, S (ix3 h i v) = ((X.state b n.val h i v : ℝ) : EReal)) (r : Fin 64) :
    refScale S (arg0.view.readAt (Elt Ideal) (Rect.unit (s := S20x24x128x128) o1 S1x24x64x128.size i1).toLoadRect X0)
          (arg0.view.readAt (Elt Ideal) (Rect.unit (s := S20x24x128x128) o2 S1x24x64x128.size i2).toLoadRect X0)
          (arg1.view.readAt (Elt Ideal) (Rect.unit (s := S2x640x24x256) o3 S1x64x24x256.size i3).toLoadRect X1)
          (arg3.view.readAt (Elt Ideal) (Rect.unit (s := S64x480x128) o4 S64x24x64.size i4).toLoadRect X3)
          (arg3.view.readAt (Elt Ideal) (Rect.unit (s := S64x480x128) o5 S64x24x64.size i5).toLoadRect X3)
          (arg4.view.readAt (Elt Ideal) (Rect.unit (s := S20x64x128) o6 S1x64x24.size i6).toLoadRect X4)
          (arg4.view.readAt (Elt Ideal) (Rect.unit (s := S20x64x128) o7 S1x64x24.size i7).toLoadRect X4)
          (arg2.view.readAt (Elt Ideal) (Rect.unit (s := S2x640x24x256) o3 S1x64x24x256.size i3).toLoadRect X2)
          (arg7.view.readAt (Elt Ideal) (Rect.unit (s := S256) ![0] S256.size iw).toLoadRect X7) (ix4 0 0 0 r)
      = ((X.scale b n r : ℝ) : EReal) :=
  refScale_at _ _ _ _ _ _ _ _ _ _ _ _ _ _ _ _ _ _ _ (X.state b n.val) hS
    (fun h r i => (codes_load arg0 X0 _ _ (chunkOf b n) 0 O.keys h r i (low r) (Nat.zero_add _).symm).trans (R.codes _ _ _ _))
    (fun h r i => (codes_load arg0 X0 _ _ (chunkOf b n) 64 O.queries h r i (high r) rfl).trans (R.codes _ _ _ _))
    (fun j h v => (values_load arg1 X1 _ _ b n O.rows j h v).trans (R.values _ _ _ _))
    (fun r h j => (pairs_load arg3 X3 _ _ b n 0 O.first r h j (low j) (Nat.zero_add _).symm).trans (R.pairs _ _ _))
    (fun r h j => (pairs_load arg3 X3 _ _ b n 64 O.second r h j (high j) rfl).trans (R.pairs _ _ _))
    (fun j h => (factors_load arg4 X4 _ _ (chunkOf b n) 0 O.grow j h (growLane h) (Nat.zero_add _).symm).trans (R.factors _ _ _))
    (fun j h => (factors_load arg4 X4 _ _ (chunkOf b n) 32 O.query j h (queryLane h) rfl).trans (R.factors _ _ _))
    (fun j h v => (values_load arg2 X2 _ _ b n O.rows j h v).trans (R.gate _ _ _ _))
    (fun n => (weight_load arg7 X7 _ n).trans (R.weight n)) r (B.lt b n _ r)

end

/-- A chunk's block of scales lies in its row of the array. -/
theorem block_at {X : Inputs} (off : Fin 4 → ℕ) (inb) (b : Fin 2) (n : Fin 10) (hoff : off = ![b.val, n.val, 0, 0]) (s : Vec Ideal S1x1x1x64 .f32)
    (hs : ∀ r, s (ix4 0 0 0 r) = ((X.scale b n r : ℝ) : EReal)) (x : S1x1x1x64.Idx) :
    s x = scaleArray X ((Rect.unit (s := S2x10x1x64) off S1x1x1x64.size inb).emb x) := by
  have h0 : (x 0).val < 1 := (x 0).isLt
  have h1 : (x 1).val < 1 := (x 1).isLt
  have e : x = ix4 0 0 0 (x 3 : Fin 64) := funext fun b => by
    match b with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl
  subst hoff
  refine (congrArg s e).trans ((hs _).trans ?_)
  unfold scaleArray
  generalize hz : (Rect.unit (s := S2x10x1x64) ![b.val, n.val, 0, 0] S1x1x1x64.size inb).emb x = z
  have f0 : (z 0).val = b.val := by rw [← hz]; show b.val + 1 * (x 0).val = b.val; omega
  have f1 : (z 1).val = n.val := by rw [← hz]; show n.val + 1 * (x 1).val = n.val; omega
  have f3 : (z 3).val = (x 3).val := by rw [← hz]; show 0 + 1 * (x 3).val = (x 3).val; omega
  have g0 : (z 0 : Fin 2) = b := Fin.ext f0
  have g1 : (z 1 : Fin 10) = n := Fin.ext f1
  have g3 : (z 3 : Fin 64) = (x 3 : Fin 64) := Fin.ext f3
  rw [g0, g1, g3]

theorem trips1 : k0_t1_loop.trips = 10 := by decide +kernel

theorem offsets1 : ∀ k : Fin k0_t1_loop.trips, At (k0_off1 k) (k0_off2 k) (k0_off3 k) (k0_off4 k) (k0_off5 k) (k0_off6 k) (k0_off7 k) (k0_off8 k) (k0_off9 k) 0 ⟨k.val, Nat.lt_of_lt_of_eq k.isLt trips1⟩ :=
  have h : ∀ k : Fin k0_t1_loop.trips, k0_off1 k = ![(10 * 0 + k.val), 0, 0, 0] ∧ k0_off2 k = ![(10 * 0 + k.val), 0, 64, 0] ∧ k0_off3 k = ![0, 64 * k.val, 0, 0] ∧ k0_off4 k = ![0, 24 * (10 * 0 + k.val), 0] ∧ k0_off5 k = ![0, 24 * (10 * 0 + k.val), 64] ∧ k0_off6 k = ![(10 * 0 + k.val), 0, 0] ∧ k0_off7 k = ![(10 * 0 + k.val), 0, 32] ∧ k0_off8 k = ![(10 * 0 + k.val), 0, 64] ∧ k0_off9 k = ![24 * (10 * 0 + k.val), 0] := by decide +kernel
  fun k => by
    obtain ⟨a1, a2, a3, a4, a5, a6, a7, a8, a9⟩ := h k
    exact ⟨a1, a2, a3, a4, a5, a6, a7, a8, a9⟩

theorem stored1 : ∀ k : Fin k0_t1_loop.trips, k0_off10 k = ![0, k.val, 0, 0] := by decide +kernel

/-- Batch 0's trip: the chunk's step and scales on what it loads. -/
theorem trip1_eq (k : Fin k0_t1_loop.trips) (S : FVec Ideal S24x128x256 .f32) :
    tripR_k0_t1 (F := Ideal) 𝒱 c bd arg0 harg0 arg1 harg1 arg2 harg2 arg3 harg3 arg4 harg4 arg5 harg5 arg6 harg6 arg7 harg7 arg8 harg8 arg9 harg9 X0 X1 X2 X3 X4 X5 X7 k S
      = refStep S (arg0.view.readAt (Elt Ideal) (Rect.unit (s := S20x24x128x128) (k0_off1 k) S1x24x64x128.size (k0_off1_inb k)).toLoadRect X0)
          (arg1.view.readAt (Elt Ideal) (Rect.unit (s := S2x640x24x256) (k0_off3 k) S1x64x24x256.size (k0_off3_inb k)).toLoadRect X1)
          (arg3.view.readAt (Elt Ideal) (Rect.unit (s := S64x480x128) (k0_off4 k) S64x24x64.size (k0_off4_inb k)).toLoadRect X3)
          (arg4.view.readAt (Elt Ideal) (Rect.unit (s := S20x64x128) (k0_off6 k) S1x64x24.size (k0_off6_inb k)).toLoadRect X4)
          (arg4.view.readAt (Elt Ideal) (Rect.unit (s := S20x64x128) (k0_off8 k) S1x64x24.size (k0_off8_inb k)).toLoadRect X4)
          (arg5.view.readAt (Elt Ideal) (Rect.unit (s := S480x1) (k0_off9 k) S24x1.size (k0_off9_inb k)).toLoadRect X5) := by
  unfold tripR_k0_t1 trip_k0_t1; rfl

theorem piece1_eq (k : Fin k0_t1_loop.trips) (S : FVec Ideal S24x128x256 .f32) :
    tripL_k0_t1 (F := Ideal) 𝒱 c bd arg0 harg0 arg1 harg1 arg2 harg2 arg3 harg3 arg4 harg4 arg5 harg5 arg6 harg6 arg7 harg7 arg8 harg8 arg9 harg9 X0 X1 X2 X3 X4 X5 X7 k S
      = [⟨Rect.unit (s := S2x10x1x64) (k0_off10 k) S1x1x1x64.size (k0_off10_inb k), refScale S (arg0.view.readAt (Elt Ideal) (Rect.unit (s := S20x24x128x128) (k0_off1 k) S1x24x64x128.size (k0_off1_inb k)).toLoadRect X0)
          (arg0.view.readAt (Elt Ideal) (Rect.unit (s := S20x24x128x128) (k0_off2 k) S1x24x64x128.size (k0_off2_inb k)).toLoadRect X0)
          (arg1.view.readAt (Elt Ideal) (Rect.unit (s := S2x640x24x256) (k0_off3 k) S1x64x24x256.size (k0_off3_inb k)).toLoadRect X1)
          (arg3.view.readAt (Elt Ideal) (Rect.unit (s := S64x480x128) (k0_off4 k) S64x24x64.size (k0_off4_inb k)).toLoadRect X3)
          (arg3.view.readAt (Elt Ideal) (Rect.unit (s := S64x480x128) (k0_off5 k) S64x24x64.size (k0_off5_inb k)).toLoadRect X3)
          (arg4.view.readAt (Elt Ideal) (Rect.unit (s := S20x64x128) (k0_off6 k) S1x64x24.size (k0_off6_inb k)).toLoadRect X4)
          (arg4.view.readAt (Elt Ideal) (Rect.unit (s := S20x64x128) (k0_off7 k) S1x64x24.size (k0_off7_inb k)).toLoadRect X4)
          (arg2.view.readAt (Elt Ideal) (Rect.unit (s := S2x640x24x256) (k0_off3 k) S1x64x24x256.size (k0_off3_inb k)).toLoadRect X2)
          (arg7.view.readAt (Elt Ideal) (Rect.unit (s := S256) ![0] S256.size inb_S256_S256_0).toLoadRect X7)⟩] := by
  unfold tripL_k0_t1 trip_k0_t1; rfl

/-- Batch 0's state before each trip is the recurrence's, and so are the scales stored by then. -/
theorem state1_at {X : Inputs} (B : X.Small) {x6 : Vec Ideal S2x24x128x256 .f32}
    (R : Reads X (arg0.view.read (Elt Ideal) X0) (arg1.view.read (Elt Ideal) X1) (arg2.view.read (Elt Ideal) X2) (arg3.view.read (Elt Ideal) X3) (arg4.view.read (Elt Ideal) X4) (arg5.view.read (Elt Ideal) X5) x6 (arg7.view.read (Elt Ideal) X7))
    (init : FVec Ideal S24x128x256 .f32) (hi : ∀ h i v, init (ix3 h i v) = ((X.initial 0 h i v : ℝ) : EReal)) : (k : ℕ) → k ≤ 10 →
    (∀ h i v, (st_k0_t1 (F := Ideal) 𝒱 c bd arg0 harg0 arg1 harg1 arg2 harg2 arg3 harg3 arg4 harg4 arg5 harg5 arg6 harg6 arg7 harg7 arg8 harg8 arg9 harg9 X0 X1 X2 X3 X4 X5 X7 init k).1 (ix3 h i v) = ((X.state 0 k h i v : ℝ) : EReal))
    ∧ ∀ p ∈ (st_k0_t1 (F := Ideal) 𝒱 c bd arg0 harg0 arg1 harg1 arg2 harg2 arg3 harg3 arg4 harg4 arg5 harg5 arg6 harg6 arg7 harg7 arg8 harg8 arg9 harg9 X0 X1 X2 X3 X4 X5 X7 init k).2, ∀ x, p.2 x = scaleArray X (p.1.emb x)
  | 0, _ => by
    rw [st_k0_t1_zero]
    exact ⟨hi, fun p hp => absurd hp List.not_mem_nil⟩
  | k + 1, hk => by
    obtain ⟨ih, ip⟩ := state1_at B R init hi k (by omega)
    have hkt : k < k0_t1_loop.trips := by rw [trips1]; omega
    rw [st_k0_t1_succ (F := Ideal) 𝒱 c bd arg0 harg0 arg1 harg1 arg2 harg2 arg3 harg3 arg4 harg4 arg5 harg5 arg6 harg6 arg7 harg7 arg8 harg8 arg9 harg9 X0 X1 X2 X3 X4 X5 X7 init ⟨k, hkt⟩, trip1_eq, piece1_eq]
    refine ⟨fun h i v => step_of_loads arg0 arg1 arg2 arg3 arg4 arg5 arg7 X0 X1 X2 X3 X4 X5 X7 _ _ _ _ _ _ (offsets1 ⟨k, hkt⟩) R _ ih h i v, fun p hp => ?_⟩
    rcases List.mem_cons.mp hp with rfl | hp
    · exact block_at _ (k0_off10_inb ⟨k, hkt⟩) 0 ⟨k, by omega⟩ (stored1 ⟨k, hkt⟩) _ fun r => scale_of_loads arg0 arg1 arg2 arg3 arg4 arg5 arg7 X0 X1 X2 X3 X4 X5 X7 _ _ _ _ _ _ _ _ (offsets1 ⟨k, hkt⟩) B R _ ih r
    · exact ip p hp

theorem trips2 : k0_t2_loop.trips = 10 := by decide +kernel

theorem offsets2 : ∀ k : Fin k0_t2_loop.trips, At (k0_off11 k) (k0_off12 k) (k0_off13 k) (k0_off14 k) (k0_off15 k) (k0_off16 k) (k0_off17 k) (k0_off18 k) (k0_off19 k) 1 ⟨k.val, Nat.lt_of_lt_of_eq k.isLt trips2⟩ :=
  have h : ∀ k : Fin k0_t2_loop.trips, k0_off11 k = ![(10 * 1 + k.val), 0, 0, 0] ∧ k0_off12 k = ![(10 * 1 + k.val), 0, 64, 0] ∧ k0_off13 k = ![1, 64 * k.val, 0, 0] ∧ k0_off14 k = ![0, 24 * (10 * 1 + k.val), 0] ∧ k0_off15 k = ![0, 24 * (10 * 1 + k.val), 64] ∧ k0_off16 k = ![(10 * 1 + k.val), 0, 0] ∧ k0_off17 k = ![(10 * 1 + k.val), 0, 32] ∧ k0_off18 k = ![(10 * 1 + k.val), 0, 64] ∧ k0_off19 k = ![24 * (10 * 1 + k.val), 0] := by decide +kernel
  fun k => by
    obtain ⟨a1, a2, a3, a4, a5, a6, a7, a8, a9⟩ := h k
    exact ⟨a1, a2, a3, a4, a5, a6, a7, a8, a9⟩

theorem stored2 : ∀ k : Fin k0_t2_loop.trips, k0_off20 k = ![1, k.val, 0, 0] := by decide +kernel

/-- Batch 1's trip: the chunk's step and scales on what it loads. -/
theorem trip2_eq (k : Fin k0_t2_loop.trips) (S : FVec Ideal S24x128x256 .f32) :
    tripR_k0_t2 (F := Ideal) 𝒱 c bd arg0 harg0 arg1 harg1 arg2 harg2 arg3 harg3 arg4 harg4 arg5 harg5 arg6 harg6 arg7 harg7 arg8 harg8 arg9 harg9 X0 X1 X2 X3 X4 X5 X7 k S
      = refStep S (arg0.view.readAt (Elt Ideal) (Rect.unit (s := S20x24x128x128) (k0_off11 k) S1x24x64x128.size (k0_off11_inb k)).toLoadRect X0)
          (arg1.view.readAt (Elt Ideal) (Rect.unit (s := S2x640x24x256) (k0_off13 k) S1x64x24x256.size (k0_off13_inb k)).toLoadRect X1)
          (arg3.view.readAt (Elt Ideal) (Rect.unit (s := S64x480x128) (k0_off14 k) S64x24x64.size (k0_off14_inb k)).toLoadRect X3)
          (arg4.view.readAt (Elt Ideal) (Rect.unit (s := S20x64x128) (k0_off16 k) S1x64x24.size (k0_off16_inb k)).toLoadRect X4)
          (arg4.view.readAt (Elt Ideal) (Rect.unit (s := S20x64x128) (k0_off18 k) S1x64x24.size (k0_off18_inb k)).toLoadRect X4)
          (arg5.view.readAt (Elt Ideal) (Rect.unit (s := S480x1) (k0_off19 k) S24x1.size (k0_off19_inb k)).toLoadRect X5) := by
  unfold tripR_k0_t2 trip_k0_t2; rfl

theorem piece2_eq (k : Fin k0_t2_loop.trips) (S : FVec Ideal S24x128x256 .f32) :
    tripL_k0_t2 (F := Ideal) 𝒱 c bd arg0 harg0 arg1 harg1 arg2 harg2 arg3 harg3 arg4 harg4 arg5 harg5 arg6 harg6 arg7 harg7 arg8 harg8 arg9 harg9 X0 X1 X2 X3 X4 X5 X7 k S
      = [⟨Rect.unit (s := S2x10x1x64) (k0_off20 k) S1x1x1x64.size (k0_off20_inb k), refScale S (arg0.view.readAt (Elt Ideal) (Rect.unit (s := S20x24x128x128) (k0_off11 k) S1x24x64x128.size (k0_off11_inb k)).toLoadRect X0)
          (arg0.view.readAt (Elt Ideal) (Rect.unit (s := S20x24x128x128) (k0_off12 k) S1x24x64x128.size (k0_off12_inb k)).toLoadRect X0)
          (arg1.view.readAt (Elt Ideal) (Rect.unit (s := S2x640x24x256) (k0_off13 k) S1x64x24x256.size (k0_off13_inb k)).toLoadRect X1)
          (arg3.view.readAt (Elt Ideal) (Rect.unit (s := S64x480x128) (k0_off14 k) S64x24x64.size (k0_off14_inb k)).toLoadRect X3)
          (arg3.view.readAt (Elt Ideal) (Rect.unit (s := S64x480x128) (k0_off15 k) S64x24x64.size (k0_off15_inb k)).toLoadRect X3)
          (arg4.view.readAt (Elt Ideal) (Rect.unit (s := S20x64x128) (k0_off16 k) S1x64x24.size (k0_off16_inb k)).toLoadRect X4)
          (arg4.view.readAt (Elt Ideal) (Rect.unit (s := S20x64x128) (k0_off17 k) S1x64x24.size (k0_off17_inb k)).toLoadRect X4)
          (arg2.view.readAt (Elt Ideal) (Rect.unit (s := S2x640x24x256) (k0_off13 k) S1x64x24x256.size (k0_off13_inb k)).toLoadRect X2)
          (arg7.view.readAt (Elt Ideal) (Rect.unit (s := S256) ![0] S256.size inb_S256_S256_0).toLoadRect X7)⟩] := by
  unfold tripL_k0_t2 trip_k0_t2; rfl

/-- Batch 1's state before each trip is the recurrence's, and so are the scales stored by then. -/
theorem state2_at {X : Inputs} (B : X.Small) {x6 : Vec Ideal S2x24x128x256 .f32}
    (R : Reads X (arg0.view.read (Elt Ideal) X0) (arg1.view.read (Elt Ideal) X1) (arg2.view.read (Elt Ideal) X2) (arg3.view.read (Elt Ideal) X3) (arg4.view.read (Elt Ideal) X4) (arg5.view.read (Elt Ideal) X5) x6 (arg7.view.read (Elt Ideal) X7))
    (init : FVec Ideal S24x128x256 .f32) (hi : ∀ h i v, init (ix3 h i v) = ((X.initial 1 h i v : ℝ) : EReal)) : (k : ℕ) → k ≤ 10 →
    (∀ h i v, (st_k0_t2 (F := Ideal) 𝒱 c bd arg0 harg0 arg1 harg1 arg2 harg2 arg3 harg3 arg4 harg4 arg5 harg5 arg6 harg6 arg7 harg7 arg8 harg8 arg9 harg9 X0 X1 X2 X3 X4 X5 X7 init k).1 (ix3 h i v) = ((X.state 1 k h i v : ℝ) : EReal))
    ∧ ∀ p ∈ (st_k0_t2 (F := Ideal) 𝒱 c bd arg0 harg0 arg1 harg1 arg2 harg2 arg3 harg3 arg4 harg4 arg5 harg5 arg6 harg6 arg7 harg7 arg8 harg8 arg9 harg9 X0 X1 X2 X3 X4 X5 X7 init k).2, ∀ x, p.2 x = scaleArray X (p.1.emb x)
  | 0, _ => by
    rw [st_k0_t2_zero]
    exact ⟨hi, fun p hp => absurd hp List.not_mem_nil⟩
  | k + 1, hk => by
    obtain ⟨ih, ip⟩ := state2_at B R init hi k (by omega)
    have hkt : k < k0_t2_loop.trips := by rw [trips2]; omega
    rw [st_k0_t2_succ (F := Ideal) 𝒱 c bd arg0 harg0 arg1 harg1 arg2 harg2 arg3 harg3 arg4 harg4 arg5 harg5 arg6 harg6 arg7 harg7 arg8 harg8 arg9 harg9 X0 X1 X2 X3 X4 X5 X7 init ⟨k, hkt⟩, trip2_eq, piece2_eq]
    refine ⟨fun h i v => step_of_loads arg0 arg1 arg2 arg3 arg4 arg5 arg7 X0 X1 X2 X3 X4 X5 X7 _ _ _ _ _ _ (offsets2 ⟨k, hkt⟩) R _ ih h i v, fun p hp => ?_⟩
    rcases List.mem_cons.mp hp with rfl | hp
    · exact block_at _ (k0_off20_inb ⟨k, hkt⟩) 1 ⟨k, by omega⟩ (stored2 ⟨k, hkt⟩) _ fun r => scale_of_loads arg0 arg1 arg2 arg3 arg4 arg5 arg7 X0 X1 X2 X3 X4 X5 X7 _ _ _ _ _ _ _ _ (offsets2 ⟨k, hkt⟩) B R _ ih r
    · exact ip p hp

end

end Cert.Proof.ReferenceIdeal

end
-- ==== Proof.ReferenceIdeal.Result.lean ====
module

public import proofs.«01_k».proof.Proof.Gen.ReferenceIdeal.Frame
public import proofs.«01_k».proof.Proof.ReferenceIdeal.Trip
public import Idealize.ShloMosaic.Lib.WholeRead
public import Idealize.ShloMosaic.Lib.Pipeline.ValueKit
public import Idealize.ShloMosaic.Lib.Pipeline.ValueKit.Point
public import Idealize.ShloMosaic.Lib.Claim

@[expose] public section

set_option maxRecDepth 16384

noncomputable section

namespace Cert.Proof.ReferenceIdeal

open Cert.ReferenceIdeal Cert.ReferenceIdeal.Gen
open Idealize.ShloMosaic Idealize.ShloMosaic.TcCoe Idealize.ShloMosaic.Tactic
open Idealize.SL Idealize.SL.Sem

/-! What the reference's call leaves in its two results. -/

section
variable (c : Dev nD)
  (arg0 : Memref sig .tc .vmem S20x24x128x128 .fp8e4m3) (harg0 : arg0.IsWhole)
  (arg1 : Memref sig .tc .vmem S2x640x24x256 .bf16) (harg1 : arg1.IsWhole)
  (arg2 : Memref sig .tc .vmem S2x640x24x256 .bf16) (harg2 : arg2.IsWhole)
  (arg3 : Memref sig .tc .vmem S64x480x128 .f32) (harg3 : arg3.IsWhole)
  (arg4 : Memref sig .tc .vmem S20x64x128 .f32) (harg4 : arg4.IsWhole)
  (arg5 : Memref sig .tc .vmem S480x1 .f32) (harg5 : arg5.IsWhole)
  (arg6 : Memref sig .tc .vmem S2x24x128x256 .f32) (harg6 : arg6.IsWhole)
  (arg7 : Memref sig .tc .vmem S256 .f32) (harg7 : arg7.IsWhole)
  (arg8 : Memref sig .tc .vmem S2x10x1x64 .f32) (harg8 : arg8.IsWhole)
  (arg9 : Memref sig .tc .vmem S2x24x128x256 .f32) (harg9 : arg9.IsWhole)
  (x0 : Vec Ideal S20x24x128x128 .fp8e4m3)
  (x1 : Vec Ideal S2x640x24x256 .bf16)
  (x2 : Vec Ideal S2x640x24x256 .bf16)
  (x3 : Vec Ideal S64x480x128 .f32)
  (x4 : Vec Ideal S20x64x128 .f32)
  (x5 : Vec Ideal S480x1 .f32)
  (x6 : Vec Ideal S2x24x128x256 .f32)
  (x7 : Vec Ideal S256 .f32)

/-- The call stores batch 1's states after its ten chunks over batch 0's. -/
theorem pieces_eq : (kernelRun0_A (F := Ideal) c arg0 harg0 arg1 harg1 arg2 harg2 arg3 harg3 arg4 harg4 arg5 harg5 arg6 harg6 arg7 harg7 arg8 harg8 arg9 harg9 x0 x1 x2 x3 x4 x5 x6 x7).2.1
    = [⟨(Rect.unit (s := S2x24x128x256) ![1, 0, 0, 0] S1x24x128x256.size inb_S2x24x128x256_S1x24x128x256_1_0_0_0), k0_pay8 (st_k0_t2 (F := Ideal) Variants.none c none arg0 harg0 arg1 harg1 arg2 harg2 arg3 harg3 arg4 harg4 arg5 harg5 arg6 harg6 arg7 harg7 arg8 harg8 arg9 harg9 (harg0.unread x0) (harg1.unread x1) (harg2.unread x2) (harg3.unread x3) (harg4.unread x4) (harg5.unread x5) (harg7.unread x7)
          (k0_pay5 (arg6.view.readAt (Elt Ideal) (Rect.unit (s := S2x24x128x256) ![1, 0, 0, 0] S1x24x128x256.size inb_S2x24x128x256_S1x24x128x256_1_0_0_0).toLoadRect (harg6.unread x6))) k0_t2_loop.trips).1⟩,
       ⟨(Rect.unit (s := S2x24x128x256) ![0, 0, 0, 0] S1x24x128x256.size inb_S2x24x128x256_S1x24x128x256_0_0_0_0), k0_pay4 (st_k0_t1 (F := Ideal) Variants.none c none arg0 harg0 arg1 harg1 arg2 harg2 arg3 harg3 arg4 harg4 arg5 harg5 arg6 harg6 arg7 harg7 arg8 harg8 arg9 harg9 (harg0.unread x0) (harg1.unread x1) (harg2.unread x2) (harg3.unread x3) (harg4.unread x4) (harg5.unread x5) (harg7.unread x7)
          (k0_pay1 (arg6.view.readAt (Elt Ideal) (Rect.unit (s := S2x24x128x256) ![0, 0, 0, 0] S1x24x128x256.size inb_S2x24x128x256_S1x24x128x256_0_0_0_0).toLoadRect (harg6.unread x6))) k0_t1_loop.trips).1⟩] := by
  unfold kernelRun0_A; rfl

/-- The call stores batch 1's scales over batch 0's. -/
theorem scalePieces_eq : (kernelRun0_A (F := Ideal) c arg0 harg0 arg1 harg1 arg2 harg2 arg3 harg3 arg4 harg4 arg5 harg5 arg6 harg6 arg7 harg7 arg8 harg8 arg9 harg9 x0 x1 x2 x3 x4 x5 x6 x7).1
    = (st_k0_t2 (F := Ideal) Variants.none c none arg0 harg0 arg1 harg1 arg2 harg2 arg3 harg3 arg4 harg4 arg5 harg5 arg6 harg6 arg7 harg7 arg8 harg8 arg9 harg9 (harg0.unread x0) (harg1.unread x1) (harg2.unread x2) (harg3.unread x3) (harg4.unread x4) (harg5.unread x5) (harg7.unread x7)
          (k0_pay5 (arg6.view.readAt (Elt Ideal) (Rect.unit (s := S2x24x128x256) ![1, 0, 0, 0] S1x24x128x256.size inb_S2x24x128x256_S1x24x128x256_1_0_0_0).toLoadRect (harg6.unread x6))) k0_t2_loop.trips).2
      ++ (st_k0_t1 (F := Ideal) Variants.none c none arg0 harg0 arg1 harg1 arg2 harg2 arg3 harg3 arg4 harg4 arg5 harg5 arg6 harg6 arg7 harg7 arg8 harg8 arg9 harg9 (harg0.unread x0) (harg1.unread x1) (harg2.unread x2) (harg3.unread x3) (harg4.unread x4) (harg5.unread x5) (harg7.unread x7)
          (k0_pay1 (arg6.view.readAt (Elt Ideal) (Rect.unit (s := S2x24x128x256) ![0, 0, 0, 0] S1x24x128x256.size inb_S2x24x128x256_S1x24x128x256_0_0_0_0).toLoadRect (harg6.unread x6))) k0_t1_loop.trips).2 := by
  unfold kernelRun0_A; rfl

theorem start1_at (x : Vec Ideal S1x24x128x256 .f32) (h : Fin 24) (i : Fin 128) (n : Fin 256) : k0_pay1 x (ix3 h i n) = x (ix4 0 h i n) := by
  unfold k0_pay1; pointwise

theorem start2_at (x : Vec Ideal S1x24x128x256 .f32) (h : Fin 24) (i : Fin 128) (n : Fin 256) : k0_pay5 x (ix3 h i n) = x (ix4 0 h i n) := by
  unfold k0_pay5; pointwise

theorem state_congr (X : Inputs) {b b' : Fin 2} {h h' : Fin 24} {i i' : Fin 128} {n n' : Fin 256} (hb : b.val = b'.val) (hh : h.val = h'.val) (hi : i.val = i'.val)
    (hn : n.val = n'.val) (k : ℕ) : X.state b k h i n = X.state b' k h' i' n' := by
  obtain rfl := Fin.ext hb; obtain rfl := Fin.ext hh; obtain rfl := Fin.ext hi; obtain rfl := Fin.ext hn; rfl

/-- The array of final states. -/
def stateArray (X : Inputs) (y : S2x24x128x256.Idx) : EReal := ((X.state (y 0) 10 (y 1) (y 2) (y 3) : ℝ) : EReal)

/-- A batch's block of final states lies in its row of the array. -/
theorem stateBlock_at {X : Inputs} (off : Fin 4 → ℕ) (inb) (b : Fin 2) (hoff : off = ![b.val, 0, 0, 0]) (s : Vec Ideal S1x24x128x256 .f32)
    (hs : ∀ h i n, s (ix4 0 h i n) = ((X.state b 10 h i n : ℝ) : EReal)) (x : S1x24x128x256.Idx) :
    s x = stateArray X ((Rect.unit (s := S2x24x128x256) off S1x24x128x256.size inb).emb x) := by
  have h0 : (x 0).val < 1 := (x 0).isLt
  have e : x = ix4 0 (x 1 : Fin 24) (x 2 : Fin 128) (x 3 : Fin 256) := funext fun b => by
    match b with
    | ⟨0, _⟩ => exact Subsingleton.elim (α := Fin 1) _ _
    | ⟨1, _⟩ => rfl
    | ⟨2, _⟩ => rfl
    | ⟨3, _⟩ => rfl
  subst hoff
  refine (congrArg s e).trans ((hs _ _ _).trans (congrArg (fun z : ℝ => (z : EReal)) (state_congr X ?_ ?_ ?_ ?_ 10)))
  · show b.val = b.val + 1 * (x 0).val
    omega
  · show (x 1).val = 0 + 1 * (x 1).val
    omega
  · show (x 2).val = 0 + 1 * (x 2).val
    omega
  · show (x 3).val = 0 + 1 * (x 3).val
    omega

theorem stored1_at (S : FVec Ideal S24x128x256 .f32) (h : Fin 24) (i : Fin 128) (n : Fin 256) : k0_pay4 S (ix4 0 h i n) = S (ix3 h i n) := by
  unfold k0_pay4; pointwise

theorem stored2_at (S : FVec Ideal S24x128x256 .f32) (h : Fin 24) (i : Fin 128) (n : Fin 256) : k0_pay8 S (ix4 0 h i n) = S (ix3 h i n) := by
  unfold k0_pay8; pointwise

section
variable {X : Inputs} (B : X.Small) (R : Reads X x0 x1 x2 x3 x4 x5 x6 x7)
include B R

theorem reads_unread : Reads X (arg0.view.read (Elt Ideal) (harg0.unread x0)) (arg1.view.read (Elt Ideal) (harg1.unread x1)) (arg2.view.read (Elt Ideal) (harg2.unread x2)) (arg3.view.read (Elt Ideal) (harg3.unread x3)) (arg4.view.read (Elt Ideal) (harg4.unread x4)) (arg5.view.read (Elt Ideal) (harg5.unread x5)) (arg6.view.read (Elt Ideal) (harg6.unread x6)) (arg7.view.read (Elt Ideal) (harg7.unread x7)) := by
  rw [harg0.read_unread, harg1.read_unread, harg2.read_unread, harg3.read_unread, harg4.read_unread, harg5.read_unread, harg6.read_unread, harg7.read_unread]; exact R

/-- Batch 0's states after its ten chunks, and the scales stored by then. -/
theorem batch1_at :
    (∀ h i v, (st_k0_t1 (F := Ideal) Variants.none c none arg0 harg0 arg1 harg1 arg2 harg2 arg3 harg3 arg4 harg4 arg5 harg5 arg6 harg6 arg7 harg7 arg8 harg8 arg9 harg9 (harg0.unread x0) (harg1.unread x1) (harg2.unread x2) (harg3.unread x3) (harg4.unread x4) (harg5.unread x5) (harg7.unread x7)
          (k0_pay1 (arg6.view.readAt (Elt Ideal) (Rect.unit (s := S2x24x128x256) ![0, 0, 0, 0] S1x24x128x256.size inb_S2x24x128x256_S1x24x128x256_0_0_0_0).toLoadRect (harg6.unread x6))) k0_t1_loop.trips).1 (ix3 h i v) = ((X.state 0 10 h i v : ℝ) : EReal))
    ∧ ∀ p ∈ (st_k0_t1 (F := Ideal) Variants.none c none arg0 harg0 arg1 harg1 arg2 harg2 arg3 harg3 arg4 harg4 arg5 harg5 arg6 harg6 arg7 harg7 arg8 harg8 arg9 harg9 (harg0.unread x0) (harg1.unread x1) (harg2.unread x2) (harg3.unread x3) (harg4.unread x4) (harg5.unread x5) (harg7.unread x7)
          (k0_pay1 (arg6.view.readAt (Elt Ideal) (Rect.unit (s := S2x24x128x256) ![0, 0, 0, 0] S1x24x128x256.size inb_S2x24x128x256_S1x24x128x256_0_0_0_0).toLoadRect (harg6.unread x6))) k0_t1_loop.trips).2, ∀ x, p.2 x = scaleArray X (p.1.emb x) := by
  have R' := reads_unread arg0 harg0 arg1 harg1 arg2 harg2 arg3 harg3 arg4 harg4 arg5 harg5 arg6 harg6 arg7 harg7 x0 x1 x2 x3 x4 x5 x6 x7 B R
  rw [trips1]
  exact state1_at Variants.none c none arg0 harg0 arg1 harg1 arg2 harg2 arg3 harg3 arg4 harg4 arg5 harg5 arg6 harg6 arg7 harg7 arg8 harg8 arg9 harg9 (harg0.unread x0) (harg1.unread x1) (harg2.unread x2) (harg3.unread x3) (harg4.unread x4) (harg5.unread x5) (harg7.unread x7) B R' _
    (fun h i v => (start1_at _ h i v).trans ((initial_load arg6 _ _ _ 0 rfl h i v).trans (R'.initial _ _ _ _))) 10 (le_refl _)

/-- Batch 1's states after its ten chunks, and the scales stored by then. -/
theorem batch2_at :
    (∀ h i v, (st_k0_t2 (F := Ideal) Variants.none c none arg0 harg0 arg1 harg1 arg2 harg2 arg3 harg3 arg4 harg4 arg5 harg5 arg6 harg6 arg7 harg7 arg8 harg8 arg9 harg9 (harg0.unread x0) (harg1.unread x1) (harg2.unread x2) (harg3.unread x3) (harg4.unread x4) (harg5.unread x5) (harg7.unread x7)
          (k0_pay5 (arg6.view.readAt (Elt Ideal) (Rect.unit (s := S2x24x128x256) ![1, 0, 0, 0] S1x24x128x256.size inb_S2x24x128x256_S1x24x128x256_1_0_0_0).toLoadRect (harg6.unread x6))) k0_t2_loop.trips).1 (ix3 h i v) = ((X.state 1 10 h i v : ℝ) : EReal))
    ∧ ∀ p ∈ (st_k0_t2 (F := Ideal) Variants.none c none arg0 harg0 arg1 harg1 arg2 harg2 arg3 harg3 arg4 harg4 arg5 harg5 arg6 harg6 arg7 harg7 arg8 harg8 arg9 harg9 (harg0.unread x0) (harg1.unread x1) (harg2.unread x2) (harg3.unread x3) (harg4.unread x4) (harg5.unread x5) (harg7.unread x7)
          (k0_pay5 (arg6.view.readAt (Elt Ideal) (Rect.unit (s := S2x24x128x256) ![1, 0, 0, 0] S1x24x128x256.size inb_S2x24x128x256_S1x24x128x256_1_0_0_0).toLoadRect (harg6.unread x6))) k0_t2_loop.trips).2, ∀ x, p.2 x = scaleArray X (p.1.emb x) := by
  have R' := reads_unread arg0 harg0 arg1 harg1 arg2 harg2 arg3 harg3 arg4 harg4 arg5 harg5 arg6 harg6 arg7 harg7 x0 x1 x2 x3 x4 x5 x6 x7 B R
  rw [trips2]
  exact state2_at Variants.none c none arg0 harg0 arg1 harg1 arg2 harg2 arg3 harg3 arg4 harg4 arg5 harg5 arg6 harg6 arg7 harg7 arg8 harg8 arg9 harg9 (harg0.unread x0) (harg1.unread x1) (harg2.unread x2) (harg3.unread x3) (harg4.unread x4) (harg5.unread x5) (harg7.unread x7) B R' _
    (fun h i v => (start2_at _ h i v).trans ((initial_load arg6 _ _ _ 1 rfl h i v).trans (R'.initial _ _ _ _))) 10 (le_refl _)

/-- The call leaves each batch's states after its ten chunks. -/
theorem out_at (y : S2x24x128x256.Idx) : out0_A_9 (F := Ideal) c arg0 harg0 arg1 harg1 arg2 harg2 arg3 harg3 arg4 harg4 arg5 harg5 arg6 harg6 arg7 harg7 arg8 harg8 arg9 harg9 x0 x1 x2 x3 x4 x5 x6 x7 y = stateArray X y := by
  unfold out0_A_9
  refine View.read_writes_apply_of_pieces (v := VO0_9) (f := VO0_9.junk) (stateArray X) _ ?_ y (cover0_A_9 c arg0 harg0 arg1 harg1 arg2 harg2 arg3 harg3 arg4 harg4 arg5 harg5 arg6 harg6 arg7 harg7 arg8 harg8 arg9 harg9 x0 x1 x2 x3 x4 x5 x6 x7 y)
  rw [pieces_eq]
  intro p hp
  rcases List.mem_cons.mp hp with rfl | hp
  · exact stateBlock_at _ inb_S2x24x128x256_S1x24x128x256_1_0_0_0 1 rfl _ fun h i n => (stored2_at _ h i n).trans ((batch2_at c arg0 harg0 arg1 harg1 arg2 harg2 arg3 harg3 arg4 harg4 arg5 harg5 arg6 harg6 arg7 harg7 arg8 harg8 arg9 harg9 x0 x1 x2 x3 x4 x5 x6 x7 B R).1 h i n)
  rcases List.mem_cons.mp hp with rfl | hp
  · exact stateBlock_at _ inb_S2x24x128x256_S1x24x128x256_0_0_0_0 0 rfl _ fun h i n => (stored1_at _ h i n).trans ((batch1_at c arg0 harg0 arg1 harg1 arg2 harg2 arg3 harg3 arg4 harg4 arg5 harg5 arg6 harg6 arg7 harg7 arg8 harg8 arg9 harg9 x0 x1 x2 x3 x4 x5 x6 x7 B R).1 h i n)
  · exact absurd hp List.not_mem_nil

/-- The call leaves every chunk's scales. -/
theorem scales_at (y : S2x10x1x64.Idx) : out0_A_8 (F := Ideal) c arg0 harg0 arg1 harg1 arg2 harg2 arg3 harg3 arg4 harg4 arg5 harg5 arg6 harg6 arg7 harg7 arg8 harg8 arg9 harg9 x0 x1 x2 x3 x4 x5 x6 x7 y = scaleArray X y := by
  unfold out0_A_8
  refine View.read_writes_apply_of_pieces (v := VO0_8) (f := VO0_8.junk) (scaleArray X) _ ?_ y (cover0_A_8 c arg0 harg0 arg1 harg1 arg2 harg2 arg3 harg3 arg4 harg4 arg5 harg5 arg6 harg6 arg7 harg7 arg8 harg8 arg9 harg9 x0 x1 x2 x3 x4 x5 x6 x7 y)
  rw [scalePieces_eq]
  intro p hp
  rcases List.mem_append.mp hp with hp | hp
  · exact (batch2_at c arg0 harg0 arg1 harg1 arg2 harg2 arg3 harg3 arg4 harg4 arg5 harg5 arg6 harg6 arg7 harg7 arg8 harg8 arg9 harg9 x0 x1 x2 x3 x4 x5 x6 x7 B R).2 p hp
  · exact (batch1_at c arg0 harg0 arg1 harg1 arg2 harg2 arg3 harg3 arg4 harg4 arg5 harg5 arg6 harg6 arg7 harg7 arg8 harg8 arg9 harg9 x0 x1 x2 x3 x4 x5 x6 x7 B R).2 p hp

end

end

variable (m : (ℓ : Loc nD τ sig) → Buf (Elt Ideal) ℓ) (ρ : Dev nD → PrngReg)

theorem index_0 : ∀ t : Fin cfg0.N, (cfg0.win 0).index t = ![0, 0, 0, 0] := by decide +kernel
theorem index_1 : ∀ t : Fin cfg0.N, (cfg0.win 1).index t = ![0, 0, 0, 0] := by decide +kernel
theorem index_2 : ∀ t : Fin cfg0.N, (cfg0.win 2).index t = ![0, 0, 0, 0] := by decide +kernel
theorem index_3 : ∀ t : Fin cfg0.N, (cfg0.win 3).index t = ![0, 0, 0] := by decide +kernel
theorem index_4 : ∀ t : Fin cfg0.N, (cfg0.win 4).index t = ![0, 0, 0] := by decide +kernel
theorem index_5 : ∀ t : Fin cfg0.N, (cfg0.win 5).index t = ![0, 0] := by decide +kernel
theorem index_6 : ∀ t : Fin cfg0.N, (cfg0.win 6).index t = ![0, 0, 0, 0] := by decide +kernel
theorem index_7 : ∀ t : Fin cfg0.N, (cfg0.win 7).index t = ![0] := by decide +kernel
theorem index_8 : ∀ t : Fin cfg0.N, (cfg0.win 8).index t = ![0, 0, 0, 0] := by decide +kernel
theorem index_9 : ∀ t : Fin cfg0.N, (cfg0.win 9).index t = ![0, 0, 0, 0] := by decide +kernel

theorem codes_at (c : Dev nD) (t : Fin cfg0.N) (k : Fin 20) (h : Fin 24) (i j : Fin 128) :
    iblk m c 0 t (ix4 k h i j) = m ((c : Thread nD τ).loc main_arg0) (ix4 k h i j) := by blk_point [iblk, V, index_0 t]
theorem vals_at (c : Dev nD) (t : Fin cfg0.N) (b : Fin 2) (s : Fin 640) (h : Fin 24) (n : Fin 256) :
    iblk m c 1 t (ix4 b s h n) = m ((c : Thread nD τ).loc main_arg1) (ix4 b s h n) := by blk_point [iblk, V, index_1 t]
theorem gates_at (c : Dev nD) (t : Fin cfg0.N) (b : Fin 2) (s : Fin 640) (h : Fin 24) (n : Fin 256) :
    iblk m c 2 t (ix4 b s h n) = m ((c : Thread nD τ).loc main_arg2) (ix4 b s h n) := by blk_point [iblk, V, index_2 t]
theorem pairs_at (c : Dev nD) (t : Fin cfg0.N) (i : Fin 64) (r : Fin 480) (j : Fin 128) :
    iblk m c 3 t (ix3 i r j) = m ((c : Thread nD τ).loc main_arg3) (ix3 i r j) := by blk_point [iblk, V, index_3 t]
theorem factors_at (c : Dev nD) (t : Fin cfg0.N) (k : Fin 20) (i : Fin 64) (l : Fin 128) :
    iblk m c 4 t (ix3 k i l) = m ((c : Thread nD τ).loc main_arg4) (ix3 k i l) := by blk_point [iblk, V, index_4 t]
theorem decays_at (c : Dev nD) (t : Fin cfg0.N) (r : Fin 480) :
    iblk m c 5 t (ix2 r 0) = m ((c : Thread nD τ).loc main_arg5) (ix2 r 0) := by blk_point [iblk, V, index_5 t]
theorem initials_at (c : Dev nD) (t : Fin cfg0.N) (b : Fin 2) (h : Fin 24) (i : Fin 128) (n : Fin 256) :
    iblk m c 6 t (ix4 b h i n) = m ((c : Thread nD τ).loc main_arg6) (ix4 b h i n) := by blk_point [iblk, V, index_6 t]
theorem weights_at (c : Dev nD) (t : Fin cfg0.N) (n : Fin 256) :
    iblk m c 7 t (ix1 n) = m ((c : Thread nD τ).loc main_arg7) (ix1 n) := by blk_point [iblk, V, index_7 t]

/-- The argument arrays of a memory are the finite numbers `X`. -/
structure Holds (X : Inputs) (c : Dev nD) : Prop where
  codes : ∀ t h i j, m ((c : Thread nD τ).loc main_arg0) (ix4 t h i j) = ((X.codes t h i j : ℝ) : EReal)
  values : ∀ b s h n, m ((c : Thread nD τ).loc main_arg1) (ix4 b s h n) = ((X.values b s h n : ℝ) : EReal)
  gate : ∀ b s h n, m ((c : Thread nD τ).loc main_arg2) (ix4 b s h n) = ((X.gate b s h n : ℝ) : EReal)
  pairs : ∀ i r j, m ((c : Thread nD τ).loc main_arg3) (ix3 i r j) = ((X.pairs i r j : ℝ) : EReal)
  factors : ∀ t i l, m ((c : Thread nD τ).loc main_arg4) (ix3 t i l) = ((X.factors t i l : ℝ) : EReal)
  decay : ∀ r, m ((c : Thread nD τ).loc main_arg5) (ix2 r 0) = ((X.decay r : ℝ) : EReal)
  initial : ∀ b h i n, m ((c : Thread nD τ).loc main_arg6) (ix4 b h i n) = ((X.initial b h i n : ℝ) : EReal)
  weight : ∀ n, m ((c : Thread nD τ).loc main_arg7) (ix1 n) = ((X.weight n : ℝ) : EReal)

variable {m}

theorem Holds.reads {X : Inputs} {c : Dev nD} (H : Holds m X c) (s0 : Fin cfg0.N) : Reads X (iblk m c 0 s0) (iblk m c 1 s0) (iblk m c 2 s0) (iblk m c 3 s0) (iblk m c 4 s0) (iblk m c 5 s0) (iblk m c 6 s0) (iblk m c 7 s0) :=
  ⟨fun t h i j => (codes_at m c s0 t h i j).trans (H.codes _ _ _ _),
    fun b s h n => (vals_at m c s0 b s h n).trans (H.values _ _ _ _),
    fun b s h n => (gates_at m c s0 b s h n).trans (H.gate _ _ _ _),
    fun i r j => (pairs_at m c s0 i r j).trans (H.pairs _ _ _),
    fun t i l => (factors_at m c s0 t i l).trans (H.factors _ _ _),
    fun r => (decays_at m c s0 r).trans (H.decay _),
    fun b h i n => (initials_at m c s0 b h i n).trans (H.initial _ _ _ _),
    fun n => (weights_at m c s0 n).trans (H.weight _)⟩

theorem out_at_after {X : Inputs} {c : Dev nD} (B : X.Small) (H : Holds m X c) (t : Fin cfg0.N) (y : S2x24x128x256.Idx) : (outsAt0 m c t).2 y = stateArray X y := by
  unfold outsAt0
  dsimp only
  exact out_at c _ _ _ _ _ _ _ _ _ _ _ _ _ _ _ _ _ _ _ _ _ _ _ _ _ _ _ _ B (H.reads t) y

theorem result_eq {X : Inputs} {c : Dev nD} (B : X.Small) (H : Holds m X c) : (dats m 0 c).arrAt 9 cfg0.N = stateArray X := by
  refine (dats m 0 c).arrAt_eq_of_covers 9 _ (by decide +kernel) fun t hf y => ?_
  blk_simp
  rw [after0_9]
  refine (out_at_after B H t y).trans ?_
  have h0 : (((cfg0.win 9).blk t).view.emb y 0).val = (y 0).val := by blk_simp [index_9 t]
  have h1 : (((cfg0.win 9).blk t).view.emb y 1).val = (y 1).val := by blk_simp [index_9 t]
  have h2 : (((cfg0.win 9).blk t).view.emb y 2).val = (y 2).val := by blk_simp [index_9 t]
  have h3 : (((cfg0.win 9).blk t).view.emb y 3).val = (y 3).val := by blk_simp [index_9 t]
  exact congrArg (fun z : ℝ => (z : EReal)) (state_congr X h0.symm h1.symm h2.symm h3.symm 10)

theorem scale_congr (X : Inputs) {b b' : Fin 2} {n n' : Fin 10} {r r' : Fin 64} (hb : b.val = b'.val) (hn : n.val = n'.val) (hr : r.val = r'.val) :
    X.scale b n r = X.scale b' n' r' := by
  obtain rfl := Fin.ext hb; obtain rfl := Fin.ext hn; obtain rfl := Fin.ext hr; rfl

theorem scales_at_after {X : Inputs} {c : Dev nD} (B : X.Small) (H : Holds m X c) (t : Fin cfg0.N) (y : S2x10x1x64.Idx) : (outsAt0 m c t).1 y = scaleArray X y := by
  unfold outsAt0
  dsimp only
  exact scales_at c _ _ _ _ _ _ _ _ _ _ _ _ _ _ _ _ _ _ _ _ _ _ _ _ _ _ _ _ B (H.reads t) y

theorem scales_eq {X : Inputs} {c : Dev nD} (B : X.Small) (H : Holds m X c) : (dats m 0 c).arrAt 8 cfg0.N = scaleArray X := by
  refine (dats m 0 c).arrAt_eq_of_covers 8 _ (by decide +kernel) fun t hf y => ?_
  blk_simp
  rw [after0_8]
  refine (scales_at_after B H t y).trans ?_
  have h0 : (((cfg0.win 8).blk t).view.emb y 0).val = (y 0).val := by blk_simp [index_8 t]
  have h1 : (((cfg0.win 8).blk t).view.emb y 1).val = (y 1).val := by blk_simp [index_8 t]
  have h3 : (((cfg0.win 8).blk t).view.emb y 3).val = (y 3).val := by blk_simp [index_8 t]
  exact congrArg (fun z : ℝ => (z : EReal)) (scale_congr X h0.symm h1.symm h3.symm)

/-- The reference ends with the recurrence's scales and its states after the last chunk in its results. -/
theorem run_results {X : Dev nD → Inputs} (B : ∀ c, (X c).Small) (H : ∀ c, Holds m (X c) c) :
    θ_run defs (onTc (τ := τ) (main (F := Ideal))) ⟨m, fun _ => 0, ρ⟩ (fun r => ∀ c : Dev nD,
      r.2.mem ((c.tc : Thread nD τ).loc main_v1_0) = scaleArray (X c) ∧ r.2.mem ((c.tc : Thread nD τ).loc main_v1_1) = stateArray (X c)) :=
  (θ_run defs _ _).mono (fun r h c => ⟨((h c).1 8).trans (scales_eq (B c) (H c)), ((h c).1 9).trans (result_eq (B c) (H c))⟩) (run_main m ρ)

end Cert.Proof.ReferenceIdeal

end
-- ==== Proof.Algebraic.lean ====
module

public import proofs.«01_k».proof.Proof.Finite
public import proofs.«01_k».proof.Proof.KernelIdeal.Chunk
public import proofs.«01_k».proof.Proof.KernelIdeal.Result
public import proofs.«01_k».proof.Proof.ReferenceIdeal.Result
public import proofs.«01_k».proof.Proof.Gen.Pre_finite

@[expose] public section

noncomputable section

namespace Cert.Proof

open Idealize.ShloMosaic Idealize.ShloMosaic.TcCoe Idealize.SL.Sem

/-! The kernel and the reference end with the same scales and final states. -/

/-- The kernel's array of scales is the recurrence's. -/
theorem KernelIdeal.allScales_eq {m : (ℓ : Loc Cert.KernelIdeal.nD Cert.KernelIdeal.τ Cert.KernelIdeal.sig) → Buf (Elt Ideal) ℓ} {X : Inputs}
    {c : Dev Cert.KernelIdeal.nD} (H : KernelIdeal.Holds m X c) (B : X.Small) : KernelIdeal.allScales m c = ReferenceIdeal.scaleArray X :=
  funext fun i => KernelIdeal.scales_at H B ⟨_, KernelIdeal.chunk_lt (i 0) (i 1)⟩ (i 0) (i 1) rfl (i 3)

/-- The kernel's array of final states is the recurrence's states after the last chunk. -/
theorem KernelIdeal.finalState_eq {m : (ℓ : Loc Cert.KernelIdeal.nD Cert.KernelIdeal.τ Cert.KernelIdeal.sig) → Buf (Elt Ideal) ℓ} {X : Inputs}
    {c : Dev Cert.KernelIdeal.nD} (H : KernelIdeal.Holds m X c) : KernelIdeal.finalState m c = ReferenceIdeal.stateArray X :=
  funext fun i => KernelIdeal.stateOut_at H _ _ (i 0) 9 rfl (i 1) (i 2) (i 3)

/-- Arguments that pass the precondition are the finite numbers read off them, the gates and weights small. -/
theorem holds_of_pre {m : (ℓ : Loc Cert.KernelIdeal.nD Cert.KernelIdeal.τ Cert.KernelIdeal.sig) → Buf (Elt Ideal) ℓ} (hp : Pre_KernelIdeal_finite m)
    (c : Dev Cert.KernelIdeal.nD) : KernelIdeal.Holds m (inputsOf m c) c ∧ (inputsOf m c).Small := by
  obtain ⟨h0, h1, h3, h4, h5, h6, h2, h7⟩ := finite_of_pre m hp c
  exact ⟨{ codes := fun t h i j => h0 _, values := fun b s h n => h1 _, pairs := fun i r j => h3 _, factors := fun t i l => h4 _,
           decay := fun r => h5 _, initial := fun b h i n => h6 _, gate := fun b s h n => (h2 _).1, weight := fun n => (h7 _).1 },
    ⟨fun b s h n => (h2 _).2, fun n => (h7 _).2⟩⟩

theorem algebraic : algebraic_KernelIdeal_ReferenceIdeal_pre_finite := by
  intro m g m' g' hp hargs
  have H := fun c => (holds_of_pre hp c).1
  have B := fun c => (holds_of_pre hp c).2
  have H' : ∀ c, ReferenceIdeal.Holds m' (inputsOf m c) c := by
    intro c
    obtain ⟨a0, a1, a2, a3, a4, a5, a6, a7⟩ := hargs c
    exact ⟨fun t h i j => (congrFun a0 _).trans ((H c).codes t h i j), fun b s h n => (congrFun a1 _).trans ((H c).values b s h n),
      fun b s h n => (congrFun a2 _).trans ((H c).gate b s h n),
      fun i r j => (congrFun a3 _).trans ((H c).pairs i r j), fun t i l => (congrFun a4 _).trans ((H c).factors t i l),
      fun r => (congrFun a5 _).trans ((H c).decay r), fun b h i n => (congrFun a6 _).trans ((H c).initial b h i n),
      fun n => (congrFun a7 _).trans ((H c).weight n)⟩
  refine ⟨fun c => ReferenceIdeal.scaleArray (inputsOf m c), fun c => ReferenceIdeal.stateArray (inputsOf m c), ?_, ?_⟩
  · exact (θ_run _ _ _).mono (fun r h c => ⟨(h.1 c).1.trans (KernelIdeal.allScales_eq (H c) (B c)), (h.1 c).2.trans (KernelIdeal.finalState_eq (H c)), h.2.1 c⟩)
      (θ_run_and (KernelIdeal.run_results m g) (KernelIdeal.frame m g))
  · exact (θ_run _ _ _).mono (fun r h c => ⟨(h.1 c).1, (h.1 c).2, h.2.1 c⟩)
      (θ_run_and (ReferenceIdeal.run_results g' B H') (Cert.ReferenceIdeal.Gen.frame m' g'))

end Cert.Proof

end
-- ==== Proof.Kernel.Loop.lean ====
module

public import proofs.«01_k».proof.Proof.Gen.Kernel.Loops
public import Idealize.ShloMosaic.Lib.Tactic

@[expose] public section

set_option maxRecDepth 16384
set_option maxHeartbeats 8000000
set_option warn.classDefReducibility false

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation)

variable {F : FTy → Type} [BitOps F]

local notation "𝕄" => MT nD τ sig Unit (Elt F) ℕ (UR sig nD τ) ℕ

/-- What the loop over the tiles of heads holds before every trip: the blocks it reads at their contents, the state
    and the packed outputs at any contents. -/
abbrev Held (c : Dev nD) (arg2 : Memref sig .tc .vmem S1x24x128x128 .fp8e4m3) (arg3 : Memref sig .tc .vmem S1x64x48x128 .bf16) (arg4 : Memref sig .tc .vmem S1x64x48x128 .bf16) (arg5 : Memref sig .tc .vmem S64x24x128 .f32) (arg7 : Memref sig .tc .vmem S24x128 .f32) (arg9 : Memref sig .tc .vmem S1x256 .f32) (arg13 : Memref sig .tc .vmem S24x128x256 .f32) (arg14 : Memref sig .tc .vmem S3072x128 .f32)
    (X2 : BufTy.Contents (Elt F) arg2.view.ty) (X3 : BufTy.Contents (Elt F) arg3.view.ty) (X4 : BufTy.Contents (Elt F) arg4.view.ty) (X5 : BufTy.Contents (Elt F) arg5.view.ty) (X7 : BufTy.Contents (Elt F) arg7.view.ty) (X9 : BufTy.Contents (Elt F) arg9.view.ty) : sProp 𝕄 :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg7.view.loc (c : Thread nD τ) ↦[arg7.view.set]{fullShare} X7) ∗ (arg9.view.loc (c : Thread nD τ) ↦[arg9.view.set]{fullShare} X9)
    ∗ (∃ f : BufTy.Contents (Elt F) arg13.view.ty, (arg13.view.loc (c : Thread nD τ) ↦[arg13.view.set]{fullShare} f)) ∗ (∃ f : BufTy.Contents (Elt F) arg14.view.ty, (arg14.view.loc (c : Thread nD τ) ↦[arg14.view.set]{fullShare} f)))

/-- One trip keeps what the loop holds: it reads its blocks, updates eight heads of the state and stores their outputs. -/
@[sl_loop] def anyLoop (𝒱 : Variants) (c : Dev nD) (bd : Option 𝒱.V) (E : Set ℕ) (i : grid0.Coords)
    (arg2 : Memref sig .tc .vmem S1x24x128x128 .fp8e4m3) (harg2 : arg2.IsWhole)
    (arg3 : Memref sig .tc .vmem S1x64x48x128 .bf16) (harg3 : arg3.IsWhole)
    (arg4 : Memref sig .tc .vmem S1x64x48x128 .bf16) (harg4 : arg4.IsWhole)
    (arg5 : Memref sig .tc .vmem S64x24x128 .f32) (harg5 : arg5.IsWhole)
    (arg6 : Memref sig .tc .vmem S1x64x128 .f32) (harg6 : arg6.IsWhole)
    (arg7 : Memref sig .tc .vmem S24x128 .f32) (harg7 : arg7.IsWhole)
    (arg8 : Memref sig .tc .vmem S1x24x128x256 .f32) (harg8 : arg8.IsWhole)
    (arg9 : Memref sig .tc .vmem S1x256 .f32) (harg9 : arg9.IsWhole)
    (arg10 : Memref sig .tc .vmem S1x64x48x128 .fp8e4m3) (harg10 : arg10.IsWhole)
    (arg11 : Memref sig .tc .vmem S1x1x1x64 .f32) (harg11 : arg11.IsWhole)
    (arg12 : Memref sig .tc .vmem S1x24x128x256 .f32) (harg12 : arg12.IsWhole)
    (arg13 : Memref sig .tc .vmem S24x128x256 .f32) (harg13 : arg13.IsWhole)
    (arg14 : Memref sig .tc .vmem S3072x128 .f32) (harg14 : arg14.IsWhole)
    (v6 : IVec S64x128 32) (v7 : Vec F S1x64x128 .f32) (X2 : BufTy.Contents (Elt F) arg2.view.ty) (X3 : BufTy.Contents (Elt F) arg3.view.ty) (X4 : BufTy.Contents (Elt F) arg4.view.ty) (X5 : BufTy.Contents (Elt F) arg5.view.ty) (X7 : BufTy.Contents (Elt F) arg7.view.ty) (X9 : BufTy.Contents (Elt F) arg9.view.ty) (init : FVec F S64x128 .f32) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 v6 v7 init where
  inv := fun _ _ => Held (F := F) c arg2 arg3 arg4 arg5 arg7 arg9 arg13 arg14 X2 X3 X4 X5 X7 X9
  step k acc := by
    have hk : k.val < 3 := Nat.lt_of_lt_of_le k.isLt k0_t1_abs.2.1
    unfold k0_t1_body
    iintro ⟨H2, H3, H4, H5, H7, H9, ⟨%f13, H13⟩, ⟨%f14, H14⟩⟩
    sl_exec
    sl_step
    sl_close

end Cert.Proof.Kernel

end
-- ==== Proof.Kernel.Body.lean ====
module

public import proofs.«01_k».proof.Proof.Kernel.Loop

@[expose] public section

set_option maxRecDepth 16384
set_option maxHeartbeats 8000000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation)

variable {F : FTy → Type} [BitOps F]

local notation "𝕄" => MT nD τ sig Unit (Elt F) ℕ (UR sig nD τ) ℕ

/-- The guard of the first chunk of a batch, as the body computes it. -/
abbrev AtFirst (i : grid0.Coords) : Prop :=
  (Scalar.cmpi .ne (Scalar.extui (Scalar.cmpi .eq (BitVec.ofNat 32 (i 1).val) 0#32)) 0#32) = 1#1

/-- The guard of the last chunk of a batch, as the body computes it. -/
abbrev AtLast (i : grid0.Coords) : Prop := k0_cond2 i = 1#1

/-- A buffer held at some contents is held at whatever a read of it gives. -/
theorem held_any (c : Dev nD) {sp : Space} {s : Shape} {e : EltTy} (a : Memref sig .tc sp s e) (f : BufTy.Contents (Elt F) a.view.ty) :
    (a.view.loc (c : Thread nD τ) ↦[a.view.set]{fullShare} f : sProp 𝕄)
      ⊢ iprop(∃ x, ∃ f : BufTy.Contents (Elt F) a.view.ty, ⌜a.view.read (Elt F) f = x⌝ ∗ (a.view.loc (c : Thread nD τ) ↦[a.view.set]{fullShare} f)) := by
  iintro H
  iexists (a.view.read (Elt F) f)
  iexists f
  isplitr
  · ipureintro; rfl
  iexact H

/-- The body at any point of the grid: it runs, hands every input back as it found it, and leaves the outputs and the
    scratch at some contents. -/
theorem body_any (𝒱 : Variants) (c : Dev nD) (bd : Option 𝒱.V) (E : Set ℕ) (i : grid0.Coords)
    (arg2 : Memref sig .tc .vmem S1x24x128x128 .fp8e4m3) (harg2 : arg2.IsWhole)
    (arg3 : Memref sig .tc .vmem S1x64x48x128 .bf16) (harg3 : arg3.IsWhole)
    (arg4 : Memref sig .tc .vmem S1x64x48x128 .bf16) (harg4 : arg4.IsWhole)
    (arg5 : Memref sig .tc .vmem S64x24x128 .f32) (harg5 : arg5.IsWhole)
    (arg6 : Memref sig .tc .vmem S1x64x128 .f32) (harg6 : arg6.IsWhole)
    (arg7 : Memref sig .tc .vmem S24x128 .f32) (harg7 : arg7.IsWhole)
    (arg8 : Memref sig .tc .vmem S1x24x128x256 .f32) (harg8 : arg8.IsWhole)
    (arg9 : Memref sig .tc .vmem S1x256 .f32) (harg9 : arg9.IsWhole)
    (arg10 : Memref sig .tc .vmem S1x64x48x128 .fp8e4m3) (harg10 : arg10.IsWhole)
    (arg11 : Memref sig .tc .vmem S1x1x1x64 .f32) (harg11 : arg11.IsWhole)
    (arg12 : Memref sig .tc .vmem S1x24x128x256 .f32) (harg12 : arg12.IsWhole)
    (arg13 : Memref sig .tc .vmem S24x128x256 .f32) (harg13 : arg13.IsWhole)
    (arg14 : Memref sig .tc .vmem S3072x128 .f32) (harg14 : arg14.IsWhole)
    (x2 : S1x24x128x128.Idx → Elt F .fp8e4m3) (x3 : S1x64x48x128.Idx → Elt F .bf16) (x4 : S1x64x48x128.Idx → Elt F .bf16) (x5 : S64x24x128.Idx → Elt F .f32) (x6 : S1x64x128.Idx → Elt F .f32) (x7 : S24x128.Idx → Elt F .f32) (x8 : S1x24x128x256.Idx → Elt F .f32) (x9 : S1x256.Idx → Elt F .f32) (Kt : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9
      ∗ (∃ x, owns (c : Thread nD τ) arg10 fullShare x) ∗ (∃ x, owns (c : Thread nD τ) arg11 fullShare x) ∗ (∃ x, owns (c : Thread nD τ) arg12 fullShare x) ∗ (∃ x, owns (c : Thread nD τ) arg13 fullShare x) ∗ (∃ x, owns (c : Thread nD τ) arg14 fullShare x)
      ∗ (owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9
        ∗ (∃ x, owns (c : Thread nD τ) arg10 fullShare x) ∗ (∃ x, owns (c : Thread nD τ) arg11 fullShare x) ∗ (∃ x, owns (c : Thread nD τ) arg12 fullShare x) ∗ (∃ x, owns (c : Thread nD τ) arg13 fullShare x) ∗ (∃ x, owns (c : Thread nD τ) arg14 fullShare x) -∗ Kt ⟨⟩))
    ⊢ wp frame (wpE (defs₀ (F := F)) 𝒱 (c : Thread nD τ) bd) E (cc0_recur (F := F) i arg2 harg2 arg3 harg3 arg4 harg4 arg5 harg5 arg6 harg6 arg7 harg7 arg8 harg8 arg9 harg9 arg10 harg10 arg11 harg11 arg12 harg12 arg13 harg13 arg14 harg14) Kt := by
  simp only [cc0_recur_eq_skeleton]
  unfold cc0_recur_skel
  simp only [k0_part44_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%x10, %f10, %hf10, H10⟩, ⟨%x11, %f11, %hf11, H11⟩, ⟨%x12, %f12, %hf12, H12⟩, ⟨%x13, %f13, %hf13, H13⟩, ⟨%x14, %f14, %hf14, H14⟩, Hk⟩
  by_cases hc0 : AtFirst i <;> by_cases hc1 : AtLast i <;>
  (sl_exec (disch := first | sl_exact hc0 | sl_exact hc1)
   sl_step
   iapply Hk
   isplitl [H2]; · iexists _; isplitr; (· ipureintro; exact hf2); iexact H2
   isplitl [H3]; · iexists _; isplitr; (· ipureintro; exact hf3); iexact H3
   isplitl [H4]; · iexists _; isplitr; (· ipureintro; exact hf4); iexact H4
   isplitl [H5]; · iexists _; isplitr; (· ipureintro; exact hf5); iexact H5
   isplitl [H6]; · iexists _; isplitr; (· ipureintro; exact hf6); iexact H6
   isplitl [H7]; · iexists _; isplitr; (· ipureintro; exact hf7); iexact H7
   isplitl [H8]; · iexists _; isplitr; (· ipureintro; exact hf8); iexact H8
   isplitl [H9]; · iexists _; isplitr; (· ipureintro; exact hf9); iexact H9
   isplitl [H10]; · iapply (held_any (F := F) c arg10 _); iexact H10
   isplitl [H11]; · iapply (held_any (F := F) c arg11 _); iexact H11
   isplitl [H12]; · iapply (held_any (F := F) c arg12 _); iexact H12
   isplitl [H13]; · iapply (held_any (F := F) c arg13 _); iexact H13
   iapply (held_any (F := F) c arg14 _); iexact H14)

end Cert.Proof.Kernel

end
-- ==== Proof.Kernel.Frame.lean ====
module

public import proofs.«01_k».proof.Proof.Kernel.Body
public import proofs.«01_k».proof.Proof.Gen.Kernel.Frame

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The three outputs, of which this file says nothing. -/
def outputs : Fin 11 → Bool := fun w => w.val == 8 || w.val == 9 || w.val == 10

/-- The state and the packed outputs are scratch held at some contents between points. -/
theorem scratch_eq (c : Dev nD) :
    (Pipeline.ΦA spec0 c : sProp 𝕄)
      = iprop(iprop((∃ d, owns (c : Thread nD τ) (Memref.whole cc0_scratch0) fullShare d)
        ∗ (∃ d, owns (c : Thread nD τ) (Memref.whole cc0_scratch1) fullShare d)) ∗ (∃ r, prngReg c r)) := by
  unfold Pipeline.ΦA; rw [scopedRest0_eq]; simp only [owns_whole]; try rfl

/-- The pipeline's data: every input block is handed back as it was fetched, the outputs are not named, and the scratch
    is held at any contents between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => Dat.unnamed (cfg := cfg0) 8 t
    | ⟨9, _⟩ => Dat.unnamed (cfg := cfg0) 9 t
    | ⟨10, _⟩ => Dat.unnamed (cfg := cfg0) 10 t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-- What the body is handed at point `t`. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ X, owns (c : Thread nD τ) (win0_8.stage (cfg0.slots t 8)) fullShare X)
    ∗ (∃ X, owns (c : Thread nD τ) (win0_9.stage (cfg0.slots t 9)) fullShare X)
    ∗ (∃ X, owns (c : Thread nD τ) (win0_10.stage (cfg0.slots t 10)) fullShare X))

/-- What the body hands back at point `t`. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ (∃ X, owns (c : Thread nD τ) (win0_8.stage (cfg0.slots t 8)) fullShare X)
    ∗ (∃ X, owns (c : Thread nD τ) (win0_9.stage (cfg0.slots t 9)) fullShare X)
    ∗ (∃ X, owns (c : Thread nD τ) (win0_10.stage (cfg0.slots t 10)) fullShare X))

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, after_0, before_1, after_1, before_2, after_2, before_3, after_3, before_4, after_4, before_5, after_5, before_6, after_6, before_7, after_7]
  rw [show (dats m 0 c).owesAt () t.succ = (dats m 0 c).owesAt () t.castSucc from rfl,
    show (dats m 0 c).Φ t.castSucc = Pipeline.ΦA spec0 c from rfl, show (dats m 0 c).Φ t.succ = Pipeline.ΦA spec0 c from rfl, scratch_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9, H10⟩
  iapply (body_any (F := F) Variants.none c none Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10))
    (Memref.whole cc0_scratch0) (Memref.isWhole_whole _) (Memref.whole cc0_scratch1) (Memref.isWhole_whole _)
    (iblk m c 0 t) (iblk m c 1 t) (iblk m c 2 t) (iblk m c 3 t) (iblk m c 4 t) (iblk m c 5 t) (iblk m c 6 t) (iblk m c 7 t))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  isplitl [HS1]; · iexact HS1
  iintro ⟨H0, H1, H2, H3, H4, H5, H6, H7, H8, H9, H10, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem defs₀_row (t : Fin cfg0.N) :
    defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ outputs := fun t => by
  rw [bigSep_W0, bigSep_W0, defs₀_row]
  exact triple_restated (sound_body m c t) rfl .rfl fun _ => .rfl

set_option backward.isDefEq.respectTransparency.types false in
/-- The program runs, with every array but the outputs as the pipeline found it and every counter at zero at the end. -/
theorem run_quiescent : θ_run defs (onTc (τ := τ) (main (F := F))) (s₀ m ρ)
    (fun r => Pipeline.RDat.FramePost (cfgs 0) (fun c => (dats m 0 c).toRForget outputs) (V m) r ∧ r.2.sem = fun _ => 0) :=
  Pipeline.θ_run_frame_forget (Q' := _) cfgs (dats m) (0 : Fin 1) launch0 defs₀ Variants.none outputs m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs, its argument arrays end as they were launched, and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c =>
      ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      (Pipeline.RDat.FramePost.arr_in h.1 c 3 rfl).trans (V_main_arg3 m c),
      (Pipeline.RDat.FramePost.arr_in h.1 c 4 rfl).trans (V_main_arg4 m c),
      ((h.1 c).2 main_arg5 (Pipeline.mem_restRefs_of main_arg5 (by decide) (by decide))).trans (V_main_arg5 m c),
      (Pipeline.RDat.FramePost.arr_in h.1 c 6 rfl).trans (V_main_arg6 m c),
      ((h.1 c).2 main_arg7 (Pipeline.mem_restRefs_of main_arg7 (by decide) (by decide))).trans (V_main_arg7 m c)⟩, h.2⟩)
    (run_quiescent m ρ)

end Cert.Proof.Kernel

end
-- ==== Proof.lean ====
/- The proof of the claims: both kernels and the reference run, leave their arguments as they were and end with every
   counter at zero; every rewrite made between the two kernels is the rule it names; and on finite arguments, small in
   the gates and the norm's weights, the ideal kernel ends with the reference's scales and final states. -/
module

public import proofs.«01_k».proof.Defs
public import proofs.«01_k».proof.Proof.Algebraic
public import proofs.«01_k».proof.Proof.Kernel.Frame
public import proofs.«01_k».proof.Proof.KernelIdeal.Frame
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.Pre_finite
public import Idealize.ShloMosaic.Lib.Bf16Pair
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite.Gen.facts,
    fun m g _ => Kernel.frame m g,
    fun m g _ => KernelIdeal.frame m g,
    fun m g _ => KernelIdeal.frame m g,
    fun m g _ => Cert.ReferenceIdeal.Gen.frame m g,
    fun m g _ => Cert.ReferenceIdeal.Gen.frame m g,
    ⟨IdealRules.bf16_pair.statement _ _ (by decide),
      IdealRules.bf16_pair.statement _ _ (by decide),
      IdealRules.bf16_pack.statement _, IdealRules.bf16_pack.statement _, IdealRules.bf16_pack.statement _⟩,
    algebraic⟩

end Cert.Proof

end
